-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩

class Facts : Prop where
  bcast_S_S100000x128 : S_.BroadcastsInDim S100000x128 (![] : Fin 0 → Fin S100000x128.rank)

variable [Facts]

def fn {F : FTy → Type} [FloatOps F] (main_arg0 : FVec F S100000x128 .f32) (main_arg1 : IVec S100000 32) (main_arg2 : FVec F S512x256 .f32) (main_arg3 : FVec F S512x128 .f32) (main_arg4 : FVec F S512 .f32) (main_arg5 : FVec F S512 .f32) : IVec S100000x128 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  main_v2
-- ==== Kernel.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S4x1x25000 : Shape := ⟨3, ![4, 1, 25000]⟩
abbrev S256x512 : Shape := ⟨2, ![256, 512]⟩
abbrev S128x512 : Shape := ⟨2, ![128, 512]⟩
abbrev S1x512 : Shape := ⟨2, ![1, 512]⟩
abbrev S64x256 : Shape := ⟨2, ![64, 256]⟩
abbrev S64x128 : Shape := ⟨2, ![64, 128]⟩
abbrev S64x1 : Shape := ⟨2, ![64, 1]⟩
abbrev S64x512 : Shape := ⟨2, ![64, 512]⟩
abbrev S25000x128 : Shape := ⟨2, ![25000, 128]⟩
abbrev S1x1x25000 : Shape := ⟨3, ![1, 1, 25000]⟩
abbrev S1x25000 : Shape := ⟨2, ![1, 25000]⟩
abbrev S64x25000 : Shape := ⟨2, ![64, 25000]⟩
abbrev S64 : Shape := ⟨1, ![64]⟩

abbrev nBuf : Space → Nat
  | .hbm => 13
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S100000x128, .bf16⟩
  | .hbm, ⟨7, _⟩ => ⟨S4x1x25000, .i32⟩
  | .hbm, ⟨8, _⟩ => ⟨S256x512, .f32⟩
  | .hbm, ⟨9, _⟩ => ⟨S128x512, .f32⟩
  | .hbm, ⟨10, _⟩ => ⟨S512, .f32⟩
  | .hbm, ⟨11, _⟩ => ⟨S1x512, .f32⟩
  | .hbm, ⟨12, _⟩ => ⟨S64x256, .f32⟩
  | .local _ .vmem, ⟨0, _⟩ => ⟨S100000x128, .bf16⟩
  | .local _ .vmem, ⟨1, _⟩ => ⟨S4x1x25000, .i32⟩
  | .local _ .vmem, ⟨2, _⟩ => ⟨S256x512, .f32⟩
  | .local _ .vmem, ⟨3, _⟩ => ⟨S128x512, .f32⟩
  | .local _ .vmem, ⟨4, _⟩ => ⟨S1x512, .f32⟩
  | .local _ .vmem, ⟨5, _⟩ => ⟨S64x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2_i32 : BitVec 32 := 2#32
  let v35 : BitVec 32 := Scalar.addi c0_i32 c2_i32
  let c1_i32 : BitVec 32 := 1#32
  ⟨c0_i32, v35, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c25000_i32 : BitVec 32 := 25000#32
  let v209 : BitVec 32 := Scalar.muli arg6 c25000_i32
  let v210 : Index := Scalar.indexCast v209
  let c0_64 : Index := 0#32
  ![v210.toNat, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v213 : Index := Scalar.indexCast arg6
  let c0_65 : Index := 0#32
  let c0_66 : Index := 0#32
  ![v213.toNat, 0, 0]
def k0_off3 (k0_t1 : Fin k0_t1_loop.trips) : Fin 2 → Nat :=
  let c2_i32_74 : BitVec 32 := 2#32
  let c0_i32 : BitVec 32 := 0#32
  let c1_i32 : BitVec 32 := 1#32
  let arg6 : BitVec 32 := Scf.iv c0_i32 c1_i32 k0_t1
  let v243 : BitVec 32 := Scalar.addi c2_i32_74 arg6
  let c25000_i32_75 : BitVec 32 := 25000#32
  let v244 : BitVec 32 := Scalar.muli v243 c25000_i32_75
  let v245 : Index := Scalar.indexCast v244
  let c0_76 : Index := 0#32
  ![v245.toNat, 0]
def k0_off4 (k0_t1 : Fin k0_t1_loop.trips) : Fin 3 → Nat :=
  let c2_i32_74 : BitVec 32 := 2#32
  let c0_i32 : BitVec 32 := 0#32
  let c1_i32 : BitVec 32 := 1#32
  let arg6 : BitVec 32 := Scf.iv c0_i32 c1_i32 k0_t1
  let v243 : BitVec 32 := Scalar.addi c2_i32_74 arg6
  let v248 : Index := Scalar.indexCast v243
  let c0_77 : Index := 0#32
  let c0_78 : Index := 0#32
  ![v248.toNat, 0, 0]
@[reducible] def k0_t2_loop : Scf.Loop 32 :=
  let c0_i32_25 : BitVec 32 := 0#32
  let c2_i32_26 : BitVec 32 := 2#32
  let v86 : BitVec 32 := Scalar.addi c0_i32_25 c2_i32_26
  let c1_i32_27 : BitVec 32 := 1#32
  ⟨c0_i32_25, v86, c1_i32_27⟩
def k0_off5 (k0_t2 : Fin k0_t2_loop.trips) : Fin 2 → Nat :=
  let c0_i32_25 : BitVec 32 := 0#32
  let c1_i32_27 : BitVec 32 := 1#32
  let arg6 : BitVec 32 := Scf.iv c0_i32_25 c1_i32_27 k0_t2
  let c25000_i32 : BitVec 32 := 25000#32
  let v209 : BitVec 32 := Scalar.muli arg6 c25000_i32
  let v210 : Index := Scalar.indexCast v209
  let c0_64 : Index := 0#32
  ![v210.toNat, 0]
def k0_off6 (k0_t2 : Fin k0_t2_loop.trips) : Fin 3 → Nat :=
  let c0_i32_25 : BitVec 32 := 0#32
  let c1_i32_27 : BitVec 32 := 1#32
  let arg6 : BitVec 32 := Scf.iv c0_i32_25 c1_i32_27 k0_t2
  let v213 : Index := Scalar.indexCast arg6
  let c0_65 : Index := 0#32
  let c0_66 : Index := 0#32
  ![v213.toNat, 0, 0]
def k0_off7 (k0_t2 : Fin k0_t2_loop.trips) : Fin 2 → Nat :=
  let c2_i32_74 : BitVec 32 := 2#32
  let c0_i32_25 : BitVec 32 := 0#32
  let c1_i32_27 : BitVec 32 := 1#32
  let arg6 : BitVec 32 := Scf.iv c0_i32_25 c1_i32_27 k0_t2
  let v243 : BitVec 32 := Scalar.addi c2_i32_74 arg6
  let c25000_i32_75 : BitVec 32 := 25000#32
  let v244 : BitVec 32 := Scalar.muli v243 c25000_i32_75
  let v245 : Index := Scalar.indexCast v244
  let c0_76 : Index := 0#32
  ![v245.toNat, 0]
def k0_off8 (k0_t2 : Fin k0_t2_loop.trips) : Fin 3 → Nat :=
  let c2_i32_74 : BitVec 32 := 2#32
  let c0_i32_25 : BitVec 32 := 0#32
  let c1_i32_27 : BitVec 32 := 1#32
  let arg6 : BitVec 32 := Scf.iv c0_i32_25 c1_i32_27 k0_t2
  let v243 : BitVec 32 := Scalar.addi c2_i32_74 arg6
  let v248 : Index := Scalar.indexCast v243
  let c0_77 : Index := 0#32
  let c0_78 : Index := 0#32
  ![v248.toNat, 0, 0]
@[reducible] def k0_t3_loop : Scf.Loop 32 :=
  let c0_i32_41 : BitVec 32 := 0#32
  let c2_i32_42 : BitVec 32 := 2#32
  let v137 : BitVec 32 := Scalar.addi c0_i32_41 c2_i32_42
  let c1_i32_43 : BitVec 32 := 1#32
  ⟨c0_i32_41, v137, c1_i32_43⟩
def k0_off9 (k0_t3 : Fin k0_t3_loop.trips) : Fin 2 → Nat :=
  let c0_i32_41 : BitVec 32 := 0#32
  let c1_i32_43 : BitVec 32 := 1#32
  let arg6 : BitVec 32 := Scf.iv c0_i32_41 c1_i32_43 k0_t3
  let c25000_i32 : BitVec 32 := 25000#32
  let v209 : BitVec 32 := Scalar.muli arg6 c25000_i32
  let v210 : Index := Scalar.indexCast v209
  let c0_64 : Index := 0#32
  ![v210.toNat, 0]
def k0_off10 (k0_t3 : Fin k0_t3_loop.trips) : Fin 3 → Nat :=
  let c0_i32_41 : BitVec 32 := 0#32
  let c1_i32_43 : BitVec 32 := 1#32
  let arg6 : BitVec 32 := Scf.iv c0_i32_41 c1_i32_43 k0_t3
  let v213 : Index := Scalar.indexCast arg6
  let c0_65 : Index := 0#32
  let c0_66 : Index := 0#32
  ![v213.toNat, 0, 0]
def k0_off11 (k0_t3 : Fin k0_t3_loop.trips) : Fin 2 → Nat :=
  let c2_i32_74 : BitVec 32 := 2#32
  let c0_i32_41 : BitVec 32 := 0#32
  let c1_i32_43 : BitVec 32 := 1#32
  let arg6 : BitVec 32 := Scf.iv c0_i32_41 c1_i32_43 k0_t3
  let v243 : BitVec 32 := Scalar.addi c2_i32_74 arg6
  let c25000_i32_75 : BitVec 32 := 25000#32
  let v244 : BitVec 32 := Scalar.muli v243 c25000_i32_75
  let v245 : Index := Scalar.indexCast v244
  let c0_76 : Index := 0#32
  ![v245.toNat, 0]
def k0_off12 (k0_t3 : Fin k0_t3_loop.trips) : Fin 3 → Nat :=
  let c2_i32_74 : BitVec 32 := 2#32
  let c0_i32_41 : BitVec 32 := 0#32
  let c1_i32_43 : BitVec 32 := 1#32
  let arg6 : BitVec 32 := Scf.iv c0_i32_41 c1_i32_43 k0_t3
  let v243 : BitVec 32 := Scalar.addi c2_i32_74 arg6
  let v248 : Index := Scalar.indexCast v243
  let c0_77 : Index := 0#32
  let c0_78 : Index := 0#32
  ![v248.toNat, 0, 0]
@[reducible] def k0_t4_loop : Scf.Loop 32 :=
  let c0_i32_57 : BitVec 32 := 0#32
  let c2_i32_58 : BitVec 32 := 2#32
  let v188 : BitVec 32 := Scalar.addi c0_i32_57 c2_i32_58
  let c1_i32_59 : BitVec 32 := 1#32
  ⟨c0_i32_57, v188, c1_i32_59⟩
def k0_off13 (k0_t4 : Fin k0_t4_loop.trips) : Fin 2 → Nat :=
  let c0_i32_57 : BitVec 32 := 0#32
  let c1_i32_59 : BitVec 32 := 1#32
  let arg6 : BitVec 32 := Scf.iv c0_i32_57 c1_i32_59 k0_t4
  let c25000_i32 : BitVec 32 := 25000#32
  let v209 : BitVec 32 := Scalar.muli arg6 c25000_i32
  let v210 : Index := Scalar.indexCast v209
  let c0_64 : Index := 0#32
  ![v210.toNat, 0]
def k0_off14 (k0_t4 : Fin k0_t4_loop.trips) : Fin 3 → Nat :=
  let c0_i32_57 : BitVec 32 := 0#32
  let c1_i32_59 : BitVec 32 := 1#32
  let arg6 : BitVec 32 := Scf.iv c0_i32_57 c1_i32_59 k0_t4
  let v213 : Index := Scalar.indexCast arg6
  let c0_65 : Index := 0#32
  let c0_66 : Index := 0#32
  ![v213.toNat, 0, 0]
def k0_off15 (k0_t4 : Fin k0_t4_loop.trips) : Fin 2 → Nat :=
  let c2_i32_74 : BitVec 32 := 2#32
  let c0_i32_57 : BitVec 32 := 0#32
  let c1_i32_59 : BitVec 32 := 1#32
  let arg6 : BitVec 32 := Scf.iv c0_i32_57 c1_i32_59 k0_t4
  let v243 : BitVec 32 := Scalar.addi c2_i32_74 arg6
  let c25000_i32_75 : BitVec 32 := 25000#32
  let v244 : BitVec 32 := Scalar.muli v243 c25000_i32_75
  let v245 : Index := Scalar.indexCast v244
  let c0_76 : Index := 0#32
  ![v245.toNat, 0]
def k0_off16 (k0_t4 : Fin k0_t4_loop.trips) : Fin 3 → Nat :=
  let c2_i32_74 : BitVec 32 := 2#32
  let c0_i32_57 : BitVec 32 := 0#32
  let c1_i32_59 : BitVec 32 := 1#32
  let arg6 : BitVec 32 := Scf.iv c0_i32_57 c1_i32_59 k0_t4
  let v243 : BitVec 32 := Scalar.addi c2_i32_74 arg6
  let v248 : Index := Scalar.indexCast v243
  let c0_77 : Index := 0#32
  let c0_78 : Index := 0#32
  ![v248.toNat, 0, 0]
abbrev stage0_0 : Fin 1 → Memref sig .tc .vmem S100000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x25000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩
abbrev S64x128 : Shape := ⟨2, ![64, 128]⟩
abbrev S64x256 : Shape := ⟨2, ![64, 256]⟩
abbrev S256x512 : Shape := ⟨2, ![256, 512]⟩
abbrev S64x512 : Shape := ⟨2, ![64, 512]⟩
abbrev S1x512 : Shape := ⟨2, ![1, 512]⟩
abbrev S128x512 : Shape := ⟨2, ![128, 512]⟩
abbrev S100000x1 : Shape := ⟨2, ![100000, 1]⟩
abbrev S1x100000 : Shape := ⟨2, ![1, 100000]⟩
abbrev S64 : Shape := ⟨1, ![64]⟩
abbrev S64x1 : Shape := ⟨2, ![64, 1]⟩
abbrev S64x100000 : Shape := ⟨2, ![64, 100000]⟩

abbrev nBuf : Space → Nat
  | .hbm => 428
  | .vmem => 0
  | .smem => 0
  | _ => 0

abbrev hbmTy0_0 (i : Nat) : BufTy := match i % 128 with
  | 0 => ⟨S100000x128, .f32⟩
  | 1 => ⟨S100000, .i32⟩
  | 2 => ⟨S512x256, .f32⟩
  | 3 => ⟨S512x128, .f32⟩
  | 4 => ⟨S512, .f32⟩
  | 5 => ⟨S512, .f32⟩
  | 6 => ⟨S_, .f32⟩
  | 7 => ⟨S64x128, .f32⟩
  | 8 => ⟨S_, .f32⟩
  | 9 => ⟨S64x128, .f32⟩
  | 10 => ⟨S_, .f32⟩
  | 11 => ⟨S64x256, .f32⟩
  | 12 => ⟨S256x512, .f32⟩
  | 13 => ⟨S64x512, .f32⟩
  | 14 => ⟨S1x512, .f32⟩
  | 15 => ⟨S64x512, .f32⟩
  | 16 => ⟨S64x512, .f32⟩
  | 17 => ⟨S128x512, .f32⟩
  | 18 => ⟨S64x512, .f32⟩
  | 19 => ⟨S64x512, .f32⟩
  | 20 => ⟨S1x512, .f32⟩
  | 21 => ⟨S64x512, .f32⟩
  | 22 => ⟨S64x512, .f32⟩
  | 23 => ⟨S64x128, .f32⟩
  | 24 => ⟨S64x128, .f32⟩
  | 25 => ⟨S64x128, .f32⟩
  | 26 => ⟨S64x128, .f32⟩
  | 27 => ⟨S64x128, .f32⟩
  | 28 => ⟨S64x128, .f32⟩
  | 29 => ⟨S_, .f32⟩
  | 30 => ⟨S64x128, .f32⟩
  | 31 => ⟨S64x128, .f32⟩
  | 32 => ⟨S_, .f32⟩
  | 33 => ⟨S64x128, .f32⟩
  | 34 => ⟨S64x128, .f32⟩
  | 35 => ⟨S64x128, .f32⟩
  | 36 => ⟨S64x128, .f32⟩
  | 37 => ⟨S_, .f32⟩
  | 38 => ⟨S64x128, .f32⟩
  | 39 => ⟨S64x128, .f32⟩
  | 40 => ⟨S_, .f32⟩
  | 41 => ⟨S64x128, .f32⟩
  | 42 => ⟨S64x128, .f32⟩
  | 43 => ⟨S64x128, .f32⟩
  | 44 => ⟨S64x128, .f32⟩
  | 45 => ⟨S64x128, .f32⟩
  | 46 => ⟨S_, .f32⟩
  | 47 => ⟨S64x128, .f32⟩
  | 48 => ⟨S64x128, .f32⟩
  | 49 => ⟨S_, .f32⟩
  | 50 => ⟨S64x128, .f32⟩
  | 51 => ⟨S64x128, .f32⟩
  | 52 => ⟨S64x128, .f32⟩
  | 53 => ⟨S64x128, .f32⟩
  | 54 => ⟨S64x128, .f32⟩
  | 55 => ⟨S64x128, .f32⟩
  | 56 => ⟨S64x128, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S100000x128, .f32⟩
  | 67 => ⟨S_, .f32⟩
  | 68 => ⟨S100000, .f32⟩
  | 69 => ⟨S1x100000, .i32⟩
  | 70 => ⟨S64, .i32⟩
  | 71 => ⟨S64x1, .i32⟩
  | 72 => ⟨S64x100000, .i32⟩
  | 73 => ⟨S64x100000, .i32⟩
  | 74 => ⟨S64x100000, .i1⟩
  | 75 => ⟨S1x100000, .f32⟩
  | 76 => ⟨S_, .f32⟩
  | 77 => ⟨S_, .f32⟩
  | 78 => ⟨S64x100000, .f32⟩
  | 79 => ⟨S64x100000, .f32⟩
  | 80 => ⟨S64x100000, .f32⟩
  | 81 => ⟨S_, .f32⟩
  | 82 => ⟨S64, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000, .f32⟩
  | 92 => ⟨S100000, .f32⟩
  | 93 => ⟨S100000, .f32⟩
  | 94 => ⟨S_, .f32⟩
  | 95 => ⟨S64, .f32⟩
  | 96 => ⟨S100000x1, .i32⟩
  | 97 => ⟨S64, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S_, .f32⟩
  | 112 => ⟨S64x128, .f32⟩
  | 113 => ⟨S100000x1, .i32⟩
  | 114 => ⟨S64x128, .f32⟩
  | 115 => ⟨S64x256, .f32⟩
  | 116 => ⟨S256x512, .f32⟩
  | 117 => ⟨S64x512, .f32⟩
  | 118 => ⟨S1x512, .f32⟩
  | 119 => ⟨S64x512, .f32⟩
  | 120 => ⟨S64x512, .f32⟩
  | 121 => ⟨S128x512, .f32⟩
  | 122 => ⟨S64x512, .f32⟩
  | 123 => ⟨S64x512, .f32⟩
  | 124 => ⟨S1x512, .f32⟩
  | 125 => ⟨S64x512, .f32⟩
  | 126 => ⟨S64x512, .f32⟩
  | 127 => ⟨S64x128, .f32⟩
  | _ => ⟨S100000x128, .f32⟩

abbrev hbmTy0_1 (i : Nat) : BufTy := match i % 128 with
  | 0 => ⟨S64x128, .f32⟩
  | 1 => ⟨S64x128, .f32⟩
  | 2 => ⟨S64x128, .f32⟩
  | 3 => ⟨S64x128, .f32⟩
  | 4 => ⟨S64x128, .f32⟩
  | 5 => ⟨S_, .f32⟩
  | 6 => ⟨S64x128, .f32⟩
  | 7 => ⟨S64x128, .f32⟩
  | 8 => ⟨S_, .f32⟩
  | 9 => ⟨S64x128, .f32⟩
  | 10 => ⟨S64x128, .f32⟩
  | 11 => ⟨S64x128, .f32⟩
  | 12 => ⟨S64x128, .f32⟩
  | 13 => ⟨S_, .f32⟩
  | 14 => ⟨S64x128, .f32⟩
  | 15 => ⟨S64x128, .f32⟩
  | 16 => ⟨S_, .f32⟩
  | 17 => ⟨S64x128, .f32⟩
  | 18 => ⟨S64x128, .f32⟩
  | 19 => ⟨S64x128, .f32⟩
  | 20 => ⟨S64x128, .f32⟩
  | 21 => ⟨S64x128, .f32⟩
  | 22 => ⟨S_, .f32⟩
  | 23 => ⟨S64x128, .f32⟩
  | 24 => ⟨S64x128, .f32⟩
  | 25 => ⟨S_, .f32⟩
  | 26 => ⟨S64x128, .f32⟩
  | 27 => ⟨S64x128, .f32⟩
  | 28 => ⟨S64x128, .f32⟩
  | 29 => ⟨S64x128, .f32⟩
  | 30 => ⟨S64x128, .f32⟩
  | 31 => ⟨S64x128, .f32⟩
  | 32 => ⟨S64x128, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x128, .f32⟩
  | 42 => ⟨S100000x128, .f32⟩
  | 43 => ⟨S_, .f32⟩
  | 44 => ⟨S100000, .f32⟩
  | 45 => ⟨S1x100000, .i32⟩
  | 46 => ⟨S64, .i32⟩
  | 47 => ⟨S64x1, .i32⟩
  | 48 => ⟨S64x100000, .i32⟩
  | 49 => ⟨S64x100000, .i32⟩
  | 50 => ⟨S64x100000, .i1⟩
  | 51 => ⟨S1x100000, .f32⟩
  | 52 => ⟨S_, .f32⟩
  | 53 => ⟨S_, .f32⟩
  | 54 => ⟨S64x100000, .f32⟩
  | 55 => ⟨S64x100000, .f32⟩
  | 56 => ⟨S64x100000, .f32⟩
  | 57 => ⟨S_, .f32⟩
  | 58 => ⟨S64, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000, .f32⟩
  | 68 => ⟨S100000, .f32⟩
  | 69 => ⟨S100000, .f32⟩
  | 70 => ⟨S_, .f32⟩
  | 71 => ⟨S64, .f32⟩
  | 72 => ⟨S100000x1, .i32⟩
  | 73 => ⟨S64, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S_, .f32⟩
  | 88 => ⟨S64x128, .f32⟩
  | 89 => ⟨S100000x1, .i32⟩
  | 90 => ⟨S64x128, .f32⟩
  | 91 => ⟨S64x256, .f32⟩
  | 92 => ⟨S256x512, .f32⟩
  | 93 => ⟨S64x512, .f32⟩
  | 94 => ⟨S1x512, .f32⟩
  | 95 => ⟨S64x512, .f32⟩
  | 96 => ⟨S64x512, .f32⟩
  | 97 => ⟨S128x512, .f32⟩
  | 98 => ⟨S64x512, .f32⟩
  | 99 => ⟨S64x512, .f32⟩
  | 100 => ⟨S1x512, .f32⟩
  | 101 => ⟨S64x512, .f32⟩
  | 102 => ⟨S64x512, .f32⟩
  | 103 => ⟨S64x128, .f32⟩
  | 104 => ⟨S64x128, .f32⟩
  | 105 => ⟨S64x128, .f32⟩
  | 106 => ⟨S64x128, .f32⟩
  | 107 => ⟨S64x128, .f32⟩
  | 108 => ⟨S64x128, .f32⟩
  | 109 => ⟨S_, .f32⟩
  | 110 => ⟨S64x128, .f32⟩
  | 111 => ⟨S64x128, .f32⟩
  | 112 => ⟨S_, .f32⟩
  | 113 => ⟨S64x128, .f32⟩
  | 114 => ⟨S64x128, .f32⟩
  | 115 => ⟨S64x128, .f32⟩
  | 116 => ⟨S64x128, .f32⟩
  | 117 => ⟨S_, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S64x128, .f32⟩
  | 124 => ⟨S64x128, .f32⟩
  | 125 => ⟨S64x128, .f32⟩
  | 126 => ⟨S_, .f32⟩
  | 127 => ⟨S64x128, .f32⟩
  | _ => ⟨S100000x128, .f32⟩

abbrev hbmTy0_2 (i : Nat) : BufTy := match i % 128 with
  | 0 => ⟨S64x128, .f32⟩
  | 1 => ⟨S_, .f32⟩
  | 2 => ⟨S64x128, .f32⟩
  | 3 => ⟨S64x128, .f32⟩
  | 4 => ⟨S64x128, .f32⟩
  | 5 => ⟨S64x128, .f32⟩
  | 6 => ⟨S64x128, .f32⟩
  | 7 => ⟨S64x128, .f32⟩
  | 8 => ⟨S64x128, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x128, .f32⟩
  | 18 => ⟨S100000x128, .f32⟩
  | 19 => ⟨S_, .f32⟩
  | 20 => ⟨S100000, .f32⟩
  | 21 => ⟨S1x100000, .i32⟩
  | 22 => ⟨S64, .i32⟩
  | 23 => ⟨S64x1, .i32⟩
  | 24 => ⟨S64x100000, .i32⟩
  | 25 => ⟨S64x100000, .i32⟩
  | 26 => ⟨S64x100000, .i1⟩
  | 27 => ⟨S1x100000, .f32⟩
  | 28 => ⟨S_, .f32⟩
  | 29 => ⟨S_, .f32⟩
  | 30 => ⟨S64x100000, .f32⟩
  | 31 => ⟨S64x100000, .f32⟩
  | 32 => ⟨S64x100000, .f32⟩
  | 33 => ⟨S_, .f32⟩
  | 34 => ⟨S64, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000, .f32⟩
  | 44 => ⟨S100000, .f32⟩
  | 45 => ⟨S100000, .f32⟩
  | 46 => ⟨S_, .f32⟩
  | 47 => ⟨S64, .f32⟩
  | 48 => ⟨S100000x1, .i32⟩
  | 49 => ⟨S64, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S_, .f32⟩
  | 64 => ⟨S64x128, .f32⟩
  | 65 => ⟨S100000x1, .i32⟩
  | 66 => ⟨S64x128, .f32⟩
  | 67 => ⟨S64x256, .f32⟩
  | 68 => ⟨S256x512, .f32⟩
  | 69 => ⟨S64x512, .f32⟩
  | 70 => ⟨S1x512, .f32⟩
  | 71 => ⟨S64x512, .f32⟩
  | 72 => ⟨S64x512, .f32⟩
  | 73 => ⟨S128x512, .f32⟩
  | 74 => ⟨S64x512, .f32⟩
  | 75 => ⟨S64x512, .f32⟩
  | 76 => ⟨S1x512, .f32⟩
  | 77 => ⟨S64x512, .f32⟩
  | 78 => ⟨S64x512, .f32⟩
  | 79 => ⟨S64x128, .f32⟩
  | 80 => ⟨S64x128, .f32⟩
  | 81 => ⟨S64x128, .f32⟩
  | 82 => ⟨S64x128, .f32⟩
  | 83 => ⟨S64x128, .f32⟩
  | 84 => ⟨S64x128, .f32⟩
  | 85 => ⟨S_, .f32⟩
  | 86 => ⟨S64x128, .f32⟩
  | 87 => ⟨S64x128, .f32⟩
  | 88 => ⟨S_, .f32⟩
  | 89 => ⟨S64x128, .f32⟩
  | 90 => ⟨S64x128, .f32⟩
  | 91 => ⟨S64x128, .f32⟩
  | 92 => ⟨S64x128, .f32⟩
  | 93 => ⟨S_, .f32⟩
  | 94 => ⟨S64x128, .f32⟩
  | 95 => ⟨S64x128, .f32⟩
  | 96 => ⟨S_, .f32⟩
  | 97 => ⟨S64x128, .f32⟩
  | 98 => ⟨S64x128, .f32⟩
  | 99 => ⟨S64x128, .f32⟩
  | 100 => ⟨S64x128, .f32⟩
  | 101 => ⟨S64x128, .f32⟩
  | 102 => ⟨S_, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x128, .f32⟩
  | 109 => ⟨S64x128, .f32⟩
  | 110 => ⟨S64x128, .f32⟩
  | 111 => ⟨S64x128, .f32⟩
  | 112 => ⟨S64x128, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x128, .f32⟩
  | 122 => ⟨S100000x128, .f32⟩
  | 123 => ⟨S_, .f32⟩
  | 124 => ⟨S100000, .f32⟩
  | 125 => ⟨S1x100000, .i32⟩
  | 126 => ⟨S64, .i32⟩
  | 127 => ⟨S64x1, .i32⟩
  | _ => ⟨S100000x128, .f32⟩

abbrev hbmTy0_3 (i : Nat) : BufTy := match i % 128 with
  | 0 => ⟨S64x100000, .i32⟩
  | 1 => ⟨S64x100000, .i32⟩
  | 2 => ⟨S64x100000, .i1⟩
  | 3 => ⟨S1x100000, .f32⟩
  | 4 => ⟨S_, .f32⟩
  | 5 => ⟨S_, .f32⟩
  | 6 => ⟨S64x100000, .f32⟩
  | 7 => ⟨S64x100000, .f32⟩
  | 8 => ⟨S64x100000, .f32⟩
  | 9 => ⟨S_, .f32⟩
  | 10 => ⟨S64, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000, .f32⟩
  | 20 => ⟨S100000, .f32⟩
  | 21 => ⟨S100000, .f32⟩
  | 22 => ⟨S_, .f32⟩
  | 23 => ⟨S64, .f32⟩
  | 24 => ⟨S100000x1, .i32⟩
  | 25 => ⟨S64, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S_, .f32⟩
  | 40 => ⟨S64x128, .f32⟩
  | 41 => ⟨S100000x1, .i32⟩
  | 42 => ⟨S64x128, .f32⟩
  | 43 => ⟨S64x256, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_18 : Ref sig .tc := ⟨.hbm, 133, rfl⟩
abbrev main_v104 : Ref sig .tc := ⟨.hbm, 134, rfl⟩
abbrev main_v105 : Ref sig .tc := ⟨.hbm, 135, rfl⟩
abbrev main_cst_19 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_22 : Ref sig .tc := ⟨.hbm, 150, rfl⟩
abbrev main_v117 : Ref sig .tc := ⟨.hbm, 151, rfl⟩
abbrev main_v118 : Ref sig .tc := ⟨.hbm, 152, rfl⟩
abbrev main_cst_23 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_c_24 : Ref sig .tc := ⟨.hbm, 161, rfl⟩
abbrev main_v126 : Ref sig .tc := ⟨.hbm, 162, rfl⟩
abbrev main_v127 : Ref sig .tc := ⟨.hbm, 163, rfl⟩
abbrev main_c_25 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_26 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_27 : Ref sig .tc := ⟨.hbm, 180, rfl⟩
abbrev main_call1_v0 : Ref sig .tc := ⟨.hbm, 181, rfl⟩
abbrev main_call1_v1 : Ref sig .tc := ⟨.hbm, 182, rfl⟩
abbrev main_call1_v2 : Ref sig .tc := ⟨.hbm, 183, rfl⟩
abbrev main_v142 : Ref sig .tc := ⟨.hbm, 184, rfl⟩
abbrev main_cst_28 : Ref sig .tc := ⟨.hbm, 185, rfl⟩
abbrev main_v143 : Ref sig .tc := ⟨.hbm, 186, rfl⟩
abbrev main_c_29 : Ref sig .tc := ⟨.hbm, 187, rfl⟩
abbrev main_v144 : Ref sig .tc := ⟨.hbm, 188, rfl⟩
abbrev main_v145 : Ref sig .tc := ⟨.hbm, 189, rfl⟩
abbrev main_c_30 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_31 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_32 : Ref sig .tc := ⟨.hbm, 202, rfl⟩
abbrev main_v156 : Ref sig .tc := ⟨.hbm, 203, rfl⟩
abbrev main_v157 : Ref sig .tc := ⟨.hbm, 204, rfl⟩
abbrev main_c_33 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_34 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_cst_35 : Ref sig .tc := ⟨.hbm, 237, rfl⟩
abbrev main_v188 : Ref sig .tc := ⟨.hbm, 238, rfl⟩
abbrev main_v189 : Ref sig .tc := ⟨.hbm, 239, rfl⟩
abbrev main_cst_36 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_cst_37 : Ref sig .tc := ⟨.hbm, 245, rfl⟩
abbrev main_v194 : Ref sig .tc := ⟨.hbm, 246, rfl⟩
abbrev main_v195 : Ref sig .tc := ⟨.hbm, 247, rfl⟩
abbrev main_cst_38 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_39 : Ref sig .tc := ⟨.hbm, 254, rfl⟩
abbrev main_v201 : Ref sig .tc := ⟨.hbm, 255, rfl⟩
abbrev main_v202 : Ref sig .tc := ⟨.hbm, 256, rfl⟩
abbrev main_cst_40 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_c_41 : Ref sig .tc := ⟨.hbm, 265, rfl⟩
abbrev main_v210 : Ref sig .tc := ⟨.hbm, 266, rfl⟩
abbrev main_v211 : Ref sig .tc := ⟨.hbm, 267, rfl⟩
abbrev main_c_42 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_cst_43 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_44 : Ref sig .tc := ⟨.hbm, 284, rfl⟩
abbrev main_call2_v0 : Ref sig .tc := ⟨.hbm, 285, rfl⟩
abbrev main_call2_v1 : Ref sig .tc := ⟨.hbm, 286, rfl⟩
abbrev main_call2_v2 : Ref sig .tc := ⟨.hbm, 287, rfl⟩
abbrev main_v226 : Ref sig .tc := ⟨.hbm, 288, rfl⟩
abbrev main_cst_45 : Ref sig .tc := ⟨.hbm, 289, rfl⟩
abbrev main_v227 : Ref sig .tc := ⟨.hbm, 290, rfl⟩
abbrev main_c_46 : Ref sig .tc := ⟨.hbm, 291, rfl⟩
abbrev main_v228 : Ref sig .tc := ⟨.hbm, 292, rfl⟩
abbrev main_v229 : Ref sig .tc := ⟨.hbm, 293, rfl⟩
abbrev main_c_47 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_cst_48 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_c_49 : Ref sig .tc := ⟨.hbm, 306, rfl⟩
abbrev main_v240 : Ref sig .tc := ⟨.hbm, 307, rfl⟩
abbrev main_v241 : Ref sig .tc := ⟨.hbm, 308, rfl⟩
abbrev main_c_50 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_cst_51 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_cst_52 : Ref sig .tc := ⟨.hbm, 341, rfl⟩
abbrev main_v272 : Ref sig .tc := ⟨.hbm, 342, rfl⟩
abbrev main_v273 : Ref sig .tc := ⟨.hbm, 343, rfl⟩
abbrev main_cst_53 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_cst_54 : Ref sig .tc := ⟨.hbm, 349, rfl⟩
abbrev main_v278 : Ref sig .tc := ⟨.hbm, 350, rfl⟩
abbrev main_v279 : Ref sig .tc := ⟨.hbm, 351, rfl⟩
abbrev main_cst_55 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_cst_56 : Ref sig .tc := ⟨.hbm, 358, rfl⟩
abbrev main_v285 : Ref sig .tc := ⟨.hbm, 359, rfl⟩
abbrev main_v286 : Ref sig .tc := ⟨.hbm, 360, rfl⟩
abbrev main_cst_57 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_c_58 : Ref sig .tc := ⟨.hbm, 369, rfl⟩
abbrev main_v294 : Ref sig .tc := ⟨.hbm, 370, rfl⟩
abbrev main_v295 : Ref sig .tc := ⟨.hbm, 371, rfl⟩
abbrev main_c_59 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_cst_60 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_cst_61 : Ref sig .tc := ⟨.hbm, 388, rfl⟩
abbrev main_call3_v0 : Ref sig .tc := ⟨.hbm, 389, rfl⟩
abbrev main_call3_v1 : Ref sig .tc := ⟨.hbm, 390, rfl⟩
abbrev main_call3_v2 : Ref sig .tc := ⟨.hbm, 391, rfl⟩
abbrev main_v310 : Ref sig .tc := ⟨.hbm, 392, rfl⟩
abbrev main_cst_62 : Ref sig .tc := ⟨.hbm, 393, rfl⟩
abbrev main_v311 : Ref sig .tc := ⟨.hbm, 394, rfl⟩
abbrev main_c_63 : Ref sig .tc := ⟨.hbm, 395, rfl⟩
abbrev main_v312 : Ref sig .tc := ⟨.hbm, 396, rfl⟩
abbrev main_v313 : Ref sig .tc := ⟨.hbm, 397, rfl⟩
abbrev main_c_64 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_cst_65 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_c_66 : Ref sig .tc := ⟨.hbm, 410, rfl⟩
abbrev main_v324 : Ref sig .tc := ⟨.hbm, 411, rfl⟩
abbrev main_v325 : Ref sig .tc := ⟨.hbm, 412, rfl⟩
abbrev main_c_67 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_cst_68 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩

abbrev nD : Nat := 1
abbrev τ : Topo := Topo.v7x

variable {F : FTy → Type} [FloatOps F]
-- ==== Proof.KernelStep.lean ====
/- What the kernel's body computes, as functions of whole arrays over the extended reals.

   One round of the pooling is an LSTM cell (`gates`, `cell`, `hidden`) followed by a pass over the rows (`pool`).
   The pass keeps, per segment, a running maximum of the scores, the sum of the weights relative to that maximum and
   the weighted sum of the rows (`Chain`); `absorb` takes in one block of 25000 rows, `pool` runs two chains over two
   blocks each and merges them. `step` is one round, `final` the array four rounds end with. -/
module

public import proofs.«01_k».proof.Defs
public import proofs.«01_k».proof.Proof.Gen.KernelIdeal
public import Idealize.ShloMosaic.Lib.ValueIdxCore

@[expose] public section

noncomputable section

namespace Cert.KernelIdeal.Value

open Cert.KernelIdeal Cert.KernelIdeal.Gen Idealize.ShloMosaic Idealize.ShloMosaic.TcCoe Idealize.ShloMosaic.ValueIdx

/-- The segment number of each of the 64 result rows. -/
def segNo : IVec S64x1 32 := iota .tc S64x1 32 [0] iota_S64x1_d0_w32

/-- The hidden state rounded to bf16. -/
def qHi (q : FVec Ideal S64x128 .f32) : FVec Ideal S64x128 .bf16 := truncf .bf16 q bitsLt_bf16_f32

/-- What that rounding drops, itself rounded to bf16. -/
def qLo (q : FVec Ideal S64x128 .f32) : FVec Ideal S64x128 .bf16 :=
  truncf .bf16 (subf q (extf .f32 (qHi q) bitsLt_bf16_f32)) bitsLt_bf16_f32

/-- The scores of one block of rows against every segment: the two dot products of the split hidden state, plus `0` where
    the row belongs to the segment and `-∞` where it does not. -/
def scores (sg : IVec S64x1 32) (qh ql : FVec Ideal S64x128 .bf16) (xb : Vec Ideal S25000x128 .bf16)
    (bb : Vec Ideal S1x1x25000 .i32) : FVec Ideal S64x25000 .f32 :=
  addf
    (addf
      (matmul (φ₂ := .bf16) dot_S64x128_S25000x128_S64x25000_1_1_0_0_n_n none qh
        (shapeCast S25000x128 xb shapeCasts_S25000x128_S25000x128) (constant S64x25000 .f32 0x00000000#32))
      (matmul (φ₂ := .bf16) dot_S64x128_S25000x128_S64x25000_1_1_0_0_n_n none ql
        (shapeCast S25000x128 xb shapeCasts_S25000x128_S25000x128) (constant S64x25000 .f32 0x00000000#32)))
    (select
      (cmpi .eq (broadcastTo S64x25000 (shapeCast S1x25000 bb shapeCasts_S1x1x25000_S1x25000) broadcasts_S1x25000_S64x25000)
        (broadcastTo S64x25000 sg broadcasts_S64x1_S64x25000))
      (broadcast S64x25000 (Scalar.ofBits (F := Ideal) .f32 0x00000000#32))
      (broadcast S64x25000 (Scalar.ofBits (F := Ideal) .f32 0xFF800000#32)))

/-- The maximum so far, after a block with scores `E`. -/
def newMax (m : FVec Ideal S64x1 .f32) (E : FVec Ideal S64x25000 .f32) : FVec Ideal S64x1 .f32 :=
  maximumf m (shapeCast S64x1
    (multiReduction .maximumf [1] S64 E 0xFF800000#32 reduces_S64x25000_S64 (.inl rfl) rfl) shapeCasts_S64_S64x1)

/-- The factor that rescales a sum taken relative to the maximum `m` to the maximum `m'`. -/
def rescale (m m' : FVec Ideal S64x1 .f32) : FVec Ideal S64x1 .f32 := exp (subf m m')

/-- The weights of a block: the exponentials of its scores relative to the maximum `m'`. -/
def weights (E : FVec Ideal S64x25000 .f32) (m' : FVec Ideal S64x1 .f32) : FVec Ideal S64x25000 .f32 :=
  exp (subf E (broadcastTo S64x25000 m' broadcasts_S64x1_S64x25000))

/-- The sum of the weights so far, after a block with weights `W`. -/
def newDen (den s : FVec Ideal S64x1 .f32) (W : FVec Ideal S64x25000 .f32) : FVec Ideal S64x1 .f32 :=
  addf (mulf den s) (shapeCast S64x1
    (multiReduction .add [1] S64 W 0x00000000#32 reduces_S64x25000_S64 (.inl rfl) rfl) shapeCasts_S64_S64x1)

/-- The weighted sum of the rows so far, after a block of rows `xb` with weights `W`. -/
def newNum (num : FVec Ideal S64x128 .f32) (s : FVec Ideal S64x1 .f32) (W : FVec Ideal S64x25000 .f32)
    (xb : Vec Ideal S25000x128 .bf16) : FVec Ideal S64x128 .f32 :=
  addf (mulf num (broadcastTo S64x128 s broadcasts_S64x1_S64x128))
    (matmul (φ₂ := .bf16) dot_S64x25000_S25000x128_S64x128_1_0_0_1_n_n none (truncf .bf16 W bitsLt_bf16_f32)
      (shapeCast S25000x128 xb shapeCasts_S25000x128_S25000x128) (constant S64x128 .f32 0x00000000#32))

/-- A running pass: the maximum, the sum of the weights and the weighted sum of the rows, per segment. -/
abbrev Chain := FVec Ideal S64x1 .f32 × FVec Ideal S64x1 .f32 × FVec Ideal S64x128 .f32

/-- The pass before any row. -/
def start : Chain :=
  (broadcast S64x1 (Named.named (F := Ideal) κ "mask" 0xF149F2CA#32), broadcast S64x1 (Scalar.ofBits (F := Ideal) .f32 0x00000000#32),
    broadcast S64x128 (Scalar.ofBits (F := Ideal) .f32 0x00000000#32))

/-- One block of rows taken into a pass. -/
def absorb (sg : IVec S64x1 32) (qh ql : FVec Ideal S64x128 .bf16) (xb : Vec Ideal S25000x128 .bf16)
    (bb : Vec Ideal S1x1x25000 .i32) (t : Chain) : Chain :=
  (newMax t.1 (scores sg qh ql xb bb),
    newDen t.2.1 (rescale t.1 (newMax t.1 (scores sg qh ql xb bb)))
      (weights (scores sg qh ql xb bb) (newMax t.1 (scores sg qh ql xb bb))),
    newNum t.2.2 (rescale t.1 (newMax t.1 (scores sg qh ql xb bb)))
      (weights (scores sg qh ql xb bb) (newMax t.1 (scores sg qh ql xb bb))) xb)

/-- Block `b` of the rows: rows `25000 b` to `25000 b + 24999`. -/
def rowsOf (x : Vec Ideal S100000x128 .bf16) (b : Fin 4) : Vec Ideal S25000x128 .bf16 :=
  fun i => x (ix2 ⟨25000 * b.val + (i 0).val, by have h : (i 0).val < 25000 := (i 0).isLt; have := b.isLt; show _ < 100000; omega⟩ (i 1))

/-- Block `b` of the rows' segment numbers. -/
def segsOf (s : Vec Ideal S4x1x25000 .i32) (b : Fin 4) : Vec Ideal S1x1x25000 .i32 :=
  fun i => s (ix3 b 0 (i 2))

/-- Two passes over disjoint sets of rows merged: the weighted sum of all their rows over the sum of all their weights,
    that sum kept away from zero. -/
def merge (a b : Chain) : FVec Ideal S64x128 .f32 :=
  divf
    (addf (mulf a.2.2 (broadcastTo S64x128 (rescale a.1 (maximumf a.1 b.1)) broadcasts_S64x1_S64x128))
      (mulf b.2.2 (broadcastTo S64x128 (rescale b.1 (maximumf a.1 b.1)) broadcasts_S64x1_S64x128)))
    (broadcastTo S64x128
      (maximumf
        (addf (mulf a.2.1 (rescale a.1 (maximumf a.1 b.1))) (mulf b.2.1 (rescale b.1 (maximumf a.1 b.1))))
        (broadcast S64x1 (Scalar.ofBits (F := Ideal) .f32 0x0DA24260#32))) broadcasts_S64x1_S64x128)

/-- One pass over blocks `b` and `b'`, from nothing. -/
def chain (sg : IVec S64x1 32) (qh ql : FVec Ideal S64x128 .bf16) (x : Vec Ideal S100000x128 .bf16)
    (s : Vec Ideal S4x1x25000 .i32) (b b' : Fin 4) (t : Chain) : Chain :=
  absorb sg qh ql (rowsOf x b') (segsOf s b') (absorb sg qh ql (rowsOf x b) (segsOf s b) t)

/-- The pooled rows of every segment for the hidden state `q`. -/
def pool (x : Vec Ideal S100000x128 .bf16) (s : Vec Ideal S4x1x25000 .i32) (q : FVec Ideal S64x128 .f32) :
    FVec Ideal S64x128 .f32 :=
  merge (chain segNo (qHi q) (qLo q) x s 0 1 start) (chain segNo (qHi q) (qLo q) x s 2 3 start)

/-- The four gates' pre-activations, side by side. -/
def gates (w2 : Vec Ideal S256x512 .f32) (w3 : Vec Ideal S128x512 .f32) (bias : Vec Ideal S1x512 .f32)
    (qs : FVec Ideal S64x256 .f32) (h : FVec Ideal S64x128 .f32) : FVec Ideal S64x512 .f32 :=
  addf
    (addf
      (matmul (φ₂ := .f32) dot_S64x256_S256x512_S64x512_1_0_0_1_n_n (some .fp32) qs
        (shapeCast S256x512 w2 shapeCasts_S256x512_S256x512) (constant S64x512 .f32 0x00000000#32))
      (matmul (φ₂ := .f32) dot_S64x128_S128x512_S64x512_1_0_0_1_n_n (some .fp32) h
        (shapeCast S128x512 w3 shapeCasts_S128x512_S128x512) (constant S64x512 .f32 0x00000000#32)))
    (broadcastTo S64x512 (shapeCast S1x512 bias shapeCasts_S1x512_S1x512) broadcasts_S1x512_S64x512)

/-- The new cell state. -/
def cell (g : FVec Ideal S64x512 .f32) (c : FVec Ideal S64x128 .f32) : FVec Ideal S64x128 .f32 :=
  addf (mulf (logistic (extractStridedSlice S64x128 ![0, 128] g slices_S64x512_o0_128_S64x128)) c)
    (mulf (logistic (extractStridedSlice S64x128 ![0, 0] g slices_S64x512_o0_0_S64x128))
      (tanh (extractStridedSlice S64x128 ![0, 256] g slices_S64x512_o0_256_S64x128)))

/-- The new hidden state. -/
def hidden (g : FVec Ideal S64x512 .f32) (c : FVec Ideal S64x128 .f32) : FVec Ideal S64x128 .f32 :=
  mulf (logistic (extractStridedSlice S64x128 ![0, 384] g slices_S64x512_o0_384_S64x128)) (tanh c)

/-- The hidden state and the pooled rows side by side. -/
def beside (h r : FVec Ideal S64x128 .f32) : FVec Ideal S64x256 .f32 :=
  concatenate S64x256 1 [⟨S64x128, h⟩, ⟨S64x128, r⟩] concatenates_S64x128_S64x128_S64x256_d1

/-- What a round hands to the next: the pair `q_star`, the hidden state and the cell state. -/
structure State where
  /-- hidden state and pooled rows, side by side -/
  qs : FVec Ideal S64x256 .f32
  /-- hidden state -/
  h : FVec Ideal S64x128 .f32
  /-- cell state -/
  c : FVec Ideal S64x128 .f32

/-- All zeros. -/
def State.init : State :=
  ⟨broadcast S64x256 (Scalar.ofBits (F := Ideal) .f32 0x00000000#32), broadcast S64x128 (Scalar.ofBits (F := Ideal) .f32 0x00000000#32),
    broadcast S64x128 (Scalar.ofBits (F := Ideal) .f32 0x00000000#32)⟩

variable (x : Vec Ideal S100000x128 .bf16) (s : Vec Ideal S4x1x25000 .i32) (w2 : Vec Ideal S256x512 .f32)
  (w3 : Vec Ideal S128x512 .f32) (bias : Vec Ideal S1x512 .f32)

/-- One round. -/
def step (t : State) : State where
  qs := beside (hidden (gates w2 w3 bias t.qs t.h) (cell (gates w2 w3 bias t.qs t.h) t.c))
    (pool x s (hidden (gates w2 w3 bias t.qs t.h) (cell (gates w2 w3 bias t.qs t.h) t.c)))
  h := hidden (gates w2 w3 bias t.qs t.h) (cell (gates w2 w3 bias t.qs t.h) t.c)
  c := cell (gates w2 w3 bias t.qs t.h) t.c

/-- What four rounds end with. -/
def final : FVec Ideal S64x256 .f32 := ((step x s w2 w3 bias)^[4] State.init).qs

end Cert.KernelIdeal.Value

end
-- ==== Proof.KernelRun.lean ====
/- The kernel's loops and its one output block, read as the array functions of KernelStep.

   A loop trip takes one block of rows into each of the two passes (`trip_t1` … `trip_t4`), so two trips from the start
   are two `chain`s (`loop_t1` … `loop_t4`), and the block the body leaves is what four rounds end with (`out_eq`). -/
module

public import proofs.«01_k».proof.Proof.KernelStep
public import proofs.«01_k».proof.Proof.Gen.KernelIdeal.Frame
public import Idealize.ShloMosaic.Lib.Tactic
public import Idealize.ShloMosaic.Lib.Pipeline.ValueKit.Tiles

@[expose] public section

noncomputable section

namespace Cert.KernelIdeal.Value

open Cert.KernelIdeal Cert.KernelIdeal.Gen Idealize.ShloMosaic Idealize.ShloMosaic.TcCoe Idealize.ShloMosaic.ValueIdx Idealize.SL.Sem

/-- What a loop carries: the two passes' three values each. -/
abbrev Carry := FVec Ideal S64x1 .f32 × FVec Ideal S64x1 .f32 × FVec Ideal S64x128 .f32 × FVec Ideal S64x1 .f32 × FVec Ideal S64x1 .f32 × FVec Ideal S64x128 .f32

/-- The first pass of a carried value. -/
abbrev Carry.fst (a : Carry) : Chain := (a.1, a.2.1, a.2.2.1)

/-- The second pass of a carried value. -/
abbrev Carry.snd (a : Carry) : Chain := (a.2.2.2.1, a.2.2.2.2.1, a.2.2.2.2.2)

/-- Two passes as one carried value. -/
abbrev both (a b : Chain) : Carry := (a.1, a.2.1, a.2.2, b.1, b.2.1, b.2.2)

/-- The rows a load at row `25000 b` reads. -/
theorem ld_rows (x : Vec Ideal S100000x128 .bf16) (off : Fin 2 → Nat) (inb) (b : Fin 4) (h : off = ![25000 * b.val, 0]) :
    View.ld x (Rect.unit (s := S100000x128) off S25000x128.size inb) = rowsOf x b := by
  subst h
  refine funext fun i => View.ld_unit_apply_of x _ _ _ i _ fun a => ?_
  match a with
  | ⟨0, _⟩ => rfl
  | ⟨1, _⟩ => exact (Nat.zero_add _).symm

/-- The segment numbers a load at block `b` reads. -/
theorem ld_segs (s : Vec Ideal S4x1x25000 .i32) (off : Fin 3 → Nat) (inb) (b : Fin 4) (h : off = ![b.val, 0, 0]) :
    View.ld s (Rect.unit (s := S4x1x25000) off S1x1x25000.size inb) = segsOf s b := by
  subst h
  refine funext fun i => View.ld_unit_apply_of s _ _ _ i _ fun a => ?_
  match a with
  | ⟨0, _⟩ => have h : (i 0).val < 1 := (i 0).isLt; show b.val = b.val + (i 0).val; omega
  | ⟨1, _⟩ => have h : (i 1).val < 1 := (i 1).isLt; show 0 = 0 + (i 1).val; omega
  | ⟨2, _⟩ => exact (Nat.zero_add _).symm

variable (c : Dev nD) (arg0 : Memref sig .tc .vmem S100000x128 .bf16) (harg0 : arg0.IsWhole) (arg1 : Memref sig .tc .vmem S4x1x25000 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S64x256 .f32) (harg5 : arg5.IsWhole)
variable (x0 : Vec Ideal S100000x128 .bf16) (x1 : Vec Ideal S4x1x25000 .i32)

/-- One trip's effect on the carried value: block `k` into the first pass, block `k + 2` into the second. -/
def tripOf (sg : IVec S64x1 32) (qh ql : FVec Ideal S64x128 .bf16) (k : ℕ) (hk : k < 2) (a : Carry) : Carry :=
  both (absorb sg qh ql (rowsOf x0 ⟨k, by omega⟩) (segsOf x1 ⟨k, by omega⟩) a.fst)
    (absorb sg qh ql (rowsOf x0 ⟨k + 2, by omega⟩) (segsOf x1 ⟨k + 2, by omega⟩) a.snd)

/-- One trip of round 1's loop. -/
theorem trip_t1 (sg : IVec S64x1 32) (v4 : Vec Ideal S256x512 .f32) (v7 : Vec Ideal S128x512 .f32) (v11 : Vec Ideal S1x512 .f32) (k : Fin k0_t1_loop.trips) (hk : k.val < 2) (hs : sg = segNo) (a : Carry) :
    tripR_k0_t1 Variants.none c none arg0 harg0 arg1 harg1 arg2 harg2 arg3 harg3 arg4 harg4 arg5 harg5 sg v4 v7 v11 (harg0.unread x0) (harg1.unread x1) k a
      = tripOf x0 x1 segNo (k0_pay52 v4 v7 v11) (k0_pay53 v4 v7 v11) k.val hk a := by
  unfold tripR_k0_t1
  unfold trip_k0_t1
  dsimp only
  sl_unfold_words
  simp only [View.readAt_eq_ld, harg0.read_unread, harg1.read_unread]
  have e1 := ld_rows x0 _ (k0_off1_inb k) ⟨k.val, by omega⟩ (k0_off1_eq k)
  have e2 := ld_segs x1 _ (k0_off2_inb k) ⟨k.val, by omega⟩ (k0_off2_eq k)
  have e3 := ld_rows x0 _ (k0_off3_inb k) ⟨k.val + 2, by omega⟩ (k0_off3_eq k)
  have e4 := ld_segs x1 _ (k0_off4_inb k) ⟨k.val + 2, by omega⟩ (k0_off4_eq k)
  subst hs
  unfold tripOf
  rw [← e1, ← e2, ← e3, ← e4]
  rfl

/-- Round 1's loop: two trips take each pass through its two blocks. -/
theorem loop_t1 (sg : IVec S64x1 32) (v4 : Vec Ideal S256x512 .f32) (v7 : Vec Ideal S128x512 .f32) (v11 : Vec Ideal S1x512 .f32) (hs : sg = segNo) (a : Carry) :
    st_k0_t1 Variants.none c none arg0 harg0 arg1 harg1 arg2 harg2 arg3 harg3 arg4 harg4 arg5 harg5 sg v4 v7 v11 (harg0.unread x0) (harg1.unread x1) a (Scf.trips (0#32) (Scalar.addi 0#32 2#32) 1#32)
      = both (chain segNo (k0_pay52 v4 v7 v11) (k0_pay53 v4 v7 v11) x0 x1 0 1 a.fst) (chain segNo (k0_pay52 v4 v7 v11) (k0_pay53 v4 v7 v11) x0 x1 2 3 a.snd) := by
  have h0 : (0 : ℕ) < k0_t1_loop.trips := by decide
  have h1 : (1 : ℕ) < k0_t1_loop.trips := by decide
  rw [show Scf.trips (0#32) (Scalar.addi 0#32 2#32) 1#32 = 1 + 1 from by decide]
  have e : st_k0_t1 Variants.none c none arg0 harg0 arg1 harg1 arg2 harg2 arg3 harg3 arg4 harg4 arg5 harg5 sg v4 v7 v11 (harg0.unread x0) (harg1.unread x1) a 1 = tripOf x0 x1 segNo (k0_pay52 v4 v7 v11) (k0_pay53 v4 v7 v11) 0 (by decide) a :=
    (st_k0_t1_succ Variants.none c none arg0 harg0 arg1 harg1 arg2 harg2 arg3 harg3 arg4 harg4 arg5 harg5 sg v4 v7 v11 _ _ a ⟨0, h0⟩).trans (trip_t1 (hk := (by decide : (0 : ℕ) < 2)) (hs := hs) ..)
  exact ((st_k0_t1_succ Variants.none c none arg0 harg0 arg1 harg1 arg2 harg2 arg3 harg3 arg4 harg4 arg5 harg5 sg v4 v7 v11 _ _ a ⟨1, h1⟩).trans (trip_t1 (hk := (by decide : (1 : ℕ) < 2)) (hs := hs) ..)).trans
    (congrArg (tripOf x0 x1 segNo (k0_pay52 v4 v7 v11) (k0_pay53 v4 v7 v11) 1 (by decide)) e)

/-- One trip of round 2's loop. -/
theorem trip_t2 (v3 : IVec S64x1 32) (v76 v78 : FVec Ideal S64x128 .f32) (v79 v82 : FVec Ideal S64x128 .bf16) (v83 v84 : FVec Ideal S64x1 .f32) (v85 : FVec Ideal S64x128 .f32) (b b' : BitVec 32) (k : Fin k0_t2_loop.trips) (hk : k.val < 2) (a : Carry) :
    tripR_k0_t2 Variants.none c none arg0 harg0 arg1 harg1 arg2 harg2 arg3 harg3 arg4 harg4 arg5 harg5 v3 v76 v78 v79 v82 v83 v84 v85 b b' (harg0.unread x0) (harg1.unread x1) k a
      = tripOf x0 x1 v3 v79 v82 k.val hk a := by
  unfold tripR_k0_t2
  unfold trip_k0_t2
  dsimp only
  sl_unfold_words
  simp only [View.readAt_eq_ld, harg0.read_unread, harg1.read_unread]
  have e1 := ld_rows x0 _ (k0_off5_inb k) ⟨k.val, by omega⟩ (k0_off5_eq k)
  have e2 := ld_segs x1 _ (k0_off6_inb k) ⟨k.val, by omega⟩ (k0_off6_eq k)
  have e3 := ld_rows x0 _ (k0_off7_inb k) ⟨k.val + 2, by omega⟩ (k0_off7_eq k)
  have e4 := ld_segs x1 _ (k0_off8_inb k) ⟨k.val + 2, by omega⟩ (k0_off8_eq k)
  unfold tripOf
  rw [← e1, ← e2, ← e3, ← e4]
  rfl

/-- Round 2's loop: two trips take each pass through its two blocks. -/
theorem loop_t2 (v3 : IVec S64x1 32) (v76 v78 : FVec Ideal S64x128 .f32) (v79 v82 : FVec Ideal S64x128 .bf16) (v83 v84 : FVec Ideal S64x1 .f32) (v85 : FVec Ideal S64x128 .f32) (b b' : BitVec 32) (a : Carry) :
    st_k0_t2 Variants.none c none arg0 harg0 arg1 harg1 arg2 harg2 arg3 harg3 arg4 harg4 arg5 harg5 v3 v76 v78 v79 v82 v83 v84 v85 b b' (harg0.unread x0) (harg1.unread x1) a (Scf.trips (0#32) (Scalar.addi 0#32 2#32) 1#32)
      = both (chain v3 v79 v82 x0 x1 0 1 a.fst) (chain v3 v79 v82 x0 x1 2 3 a.snd) := by
  have h0 : (0 : ℕ) < k0_t2_loop.trips := by decide
  have h1 : (1 : ℕ) < k0_t2_loop.trips := by decide
  rw [show Scf.trips (0#32) (Scalar.addi 0#32 2#32) 1#32 = 1 + 1 from by decide]
  have e : st_k0_t2 Variants.none c none arg0 harg0 arg1 harg1 arg2 harg2 arg3 harg3 arg4 harg4 arg5 harg5 v3 v76 v78 v79 v82 v83 v84 v85 b b' (harg0.unread x0) (harg1.unread x1) a 1 = tripOf x0 x1 v3 v79 v82 0 (by decide) a :=
    (st_k0_t2_succ Variants.none c none arg0 harg0 arg1 harg1 arg2 harg2 arg3 harg3 arg4 harg4 arg5 harg5 v3 v76 v78 v79 v82 v83 v84 v85 b b' _ _ a ⟨0, h0⟩).trans (trip_t2 (hk := (by decide : (0 : ℕ) < 2)) ..)
  exact ((st_k0_t2_succ Variants.none c none arg0 harg0 arg1 harg1 arg2 harg2 arg3 harg3 arg4 harg4 arg5 harg5 v3 v76 v78 v79 v82 v83 v84 v85 b b' _ _ a ⟨1, h1⟩).trans (trip_t2 (hk := (by decide : (1 : ℕ) < 2)) ..)).trans
    (congrArg (tripOf x0 x1 v3 v79 v82 1 (by decide)) e)

/-- One trip of round 3's loop. -/
theorem trip_t3 (v3 : IVec S64x1 32) (v127 v129 : FVec Ideal S64x128 .f32) (v130 v133 : FVec Ideal S64x128 .bf16) (v134 : FVec Ideal S64x1 .f32) (z : Ideal .f32) (k : Fin k0_t3_loop.trips) (hk : k.val < 2) (a : Carry) :
    tripR_k0_t3 Variants.none c none arg0 harg0 arg1 harg1 arg2 harg2 arg3 harg3 arg4 harg4 arg5 harg5 v3 v127 v129 v130 v133 v134 z (harg0.unread x0) (harg1.unread x1) k a
      = tripOf x0 x1 v3 v130 v133 k.val hk a := by
  unfold tripR_k0_t3
  unfold trip_k0_t3
  dsimp only
  sl_unfold_words
  simp only [View.readAt_eq_ld, harg0.read_unread, harg1.read_unread]
  have e1 := ld_rows x0 _ (k0_off9_inb k) ⟨k.val, by omega⟩ (k0_off9_eq k)
  have e2 := ld_segs x1 _ (k0_off10_inb k) ⟨k.val, by omega⟩ (k0_off10_eq k)
  have e3 := ld_rows x0 _ (k0_off11_inb k) ⟨k.val + 2, by omega⟩ (k0_off11_eq k)
  have e4 := ld_segs x1 _ (k0_off12_inb k) ⟨k.val + 2, by omega⟩ (k0_off12_eq k)
  unfold tripOf
  rw [← e1, ← e2, ← e3, ← e4]
  rfl

/-- Round 3's loop: two trips take each pass through its two blocks. -/
theorem loop_t3 (v3 : IVec S64x1 32) (v127 v129 : FVec Ideal S64x128 .f32) (v130 v133 : FVec Ideal S64x128 .bf16) (v134 : FVec Ideal S64x1 .f32) (z : Ideal .f32) (a : Carry) :
    st_k0_t3 Variants.none c none arg0 harg0 arg1 harg1 arg2 harg2 arg3 harg3 arg4 harg4 arg5 harg5 v3 v127 v129 v130 v133 v134 z (harg0.unread x0) (harg1.unread x1) a (Scf.trips (0#32) (Scalar.addi 0#32 2#32) 1#32)
      = both (chain v3 v130 v133 x0 x1 0 1 a.fst) (chain v3 v130 v133 x0 x1 2 3 a.snd) := by
  have h0 : (0 : ℕ) < k0_t3_loop.trips := by decide
  have h1 : (1 : ℕ) < k0_t3_loop.trips := by decide
  rw [show Scf.trips (0#32) (Scalar.addi 0#32 2#32) 1#32 = 1 + 1 from by decide]
  have e : st_k0_t3 Variants.none c none arg0 harg0 arg1 harg1 arg2 harg2 arg3 harg3 arg4 harg4 arg5 harg5 v3 v127 v129 v130 v133 v134 z (harg0.unread x0) (harg1.unread x1) a 1 = tripOf x0 x1 v3 v130 v133 0 (by decide) a :=
    (st_k0_t3_succ Variants.none c none arg0 harg0 arg1 harg1 arg2 harg2 arg3 harg3 arg4 harg4 arg5 harg5 v3 v127 v129 v130 v133 v134 z _ _ a ⟨0, h0⟩).trans (trip_t3 (hk := (by decide : (0 : ℕ) < 2)) ..)
  exact ((st_k0_t3_succ Variants.none c none arg0 harg0 arg1 harg1 arg2 harg2 arg3 harg3 arg4 harg4 arg5 harg5 v3 v127 v129 v130 v133 v134 z _ _ a ⟨1, h1⟩).trans (trip_t3 (hk := (by decide : (1 : ℕ) < 2)) ..)).trans
    (congrArg (tripOf x0 x1 v3 v130 v133 1 (by decide)) e)

/-- One trip of round 4's loop. -/
theorem trip_t4 (v3 : IVec S64x1 32) (v180 : FVec Ideal S64x128 .f32) (k : Fin k0_t4_loop.trips) (hk : k.val < 2) (a : Carry) :
    tripR_k0_t4 Variants.none c none arg0 harg0 arg1 harg1 arg2 harg2 arg3 harg3 arg4 harg4 arg5 harg5 v3 v180 (harg0.unread x0) (harg1.unread x1) k a
      = tripOf x0 x1 v3 (qHi v180) (qLo v180) k.val hk a := by
  unfold tripR_k0_t4
  unfold trip_k0_t4
  dsimp only
  sl_unfold_words
  simp only [View.readAt_eq_ld, harg0.read_unread, harg1.read_unread]
  have e1 := ld_rows x0 _ (k0_off13_inb k) ⟨k.val, by omega⟩ (k0_off13_eq k)
  have e2 := ld_segs x1 _ (k0_off14_inb k) ⟨k.val, by omega⟩ (k0_off14_eq k)
  have e3 := ld_rows x0 _ (k0_off15_inb k) ⟨k.val + 2, by omega⟩ (k0_off15_eq k)
  have e4 := ld_segs x1 _ (k0_off16_inb k) ⟨k.val + 2, by omega⟩ (k0_off16_eq k)
  unfold tripOf
  rw [← e1, ← e2, ← e3, ← e4]
  rfl

/-- Round 4's loop: two trips take each pass through its two blocks. -/
theorem loop_t4 (v3 : IVec S64x1 32) (v180 : FVec Ideal S64x128 .f32) (a : Carry) :
    st_k0_t4 Variants.none c none arg0 harg0 arg1 harg1 arg2 harg2 arg3 harg3 arg4 harg4 arg5 harg5 v3 v180 (harg0.unread x0) (harg1.unread x1) a (Scf.trips (0#32) (Scalar.addi 0#32 2#32) 1#32)
      = both (chain v3 (qHi v180) (qLo v180) x0 x1 0 1 a.fst) (chain v3 (qHi v180) (qLo v180) x0 x1 2 3 a.snd) := by
  have h0 : (0 : ℕ) < k0_t4_loop.trips := by decide
  have h1 : (1 : ℕ) < k0_t4_loop.trips := by decide
  rw [show Scf.trips (0#32) (Scalar.addi 0#32 2#32) 1#32 = 1 + 1 from by decide]
  have e : st_k0_t4 Variants.none c none arg0 harg0 arg1 harg1 arg2 harg2 arg3 harg3 arg4 harg4 arg5 harg5 v3 v180 (harg0.unread x0) (harg1.unread x1) a 1 = tripOf x0 x1 v3 (qHi v180) (qLo v180) 0 (by decide) a :=
    (st_k0_t4_succ Variants.none c none arg0 harg0 arg1 harg1 arg2 harg2 arg3 harg3 arg4 harg4 arg5 harg5 v3 v180 _ _ a ⟨0, h0⟩).trans (trip_t4 (hk := (by decide : (0 : ℕ) < 2)) ..)
  exact ((st_k0_t4_succ Variants.none c none arg0 harg0 arg1 harg1 arg2 harg2 arg3 harg3 arg4 harg4 arg5 harg5 v3 v180 _ _ a ⟨1, h1⟩).trans (trip_t4 (hk := (by decide : (1 : ℕ) < 2)) ..)).trans
    (congrArg (tripOf x0 x1 v3 (qHi v180) (qLo v180) 1 (by decide)) e)

section
variable (x2 : Vec Ideal S256x512 .f32) (x3 : Vec Ideal S128x512 .f32) (x4 : Vec Ideal S1x512 .f32)
  (h c' : FVec Ideal S64x128 .f32) (a b : Chain)

/-- The first round's new cell state. -/
theorem cell1 : k0_pay50 x2 x3 x4 = cell (gates x2 x3 x4 State.init.qs State.init.h) State.init.c := rfl
/-- The first round's new hidden state. -/
theorem hidden1 : k0_pay51 x2 x3 x4 = hidden (gates x2 x3 x4 State.init.qs State.init.h) (k0_pay50 x2 x3 x4) := rfl
/-- Its high part, -/
theorem high1 : k0_pay52 x2 x3 x4 = qHi (k0_pay51 x2 x3 x4) := rfl
/-- and its low part. -/
theorem low1 : k0_pay53 x2 x3 x4 = qLo (k0_pay51 x2 x3 x4) := rfl
/-- The second round's new cell state, -/
theorem cell2 : k0_pay67 c' h a.2.1 a.2.2 b.2.1 b.2.2 (k0_pay64 a.1 b.1) (k0_pay65 a.1 b.1) x2 x3 x4
    = cell (gates x2 x3 x4 (beside h (merge a b)) h) c' := rfl
/-- its new hidden state, -/
theorem hidden2 : k0_pay68 c' h a.2.1 a.2.2 b.2.1 b.2.2 (k0_pay64 a.1 b.1) (k0_pay65 a.1 b.1) x2 x3 x4
    = hidden (gates x2 x3 x4 (beside h (merge a b)) h) (cell (gates x2 x3 x4 (beside h (merge a b)) h) c') := rfl
/-- the high part of it, -/
theorem high2 (u v : FVec Ideal S64x1 .f32) : k0_pay69 c' h a.2.1 a.2.2 b.2.1 b.2.2 u v x2 x3 x4
    = qHi (k0_pay68 c' h a.2.1 a.2.2 b.2.1 b.2.2 u v x2 x3 x4) := rfl
/-- and the low part. -/
theorem low2 (u v : FVec Ideal S64x1 .f32) : k0_pay70 c' h a.2.1 a.2.2 b.2.1 b.2.2 u v x2 x3 x4
    = qLo (k0_pay68 c' h a.2.1 a.2.2 b.2.1 b.2.2 u v x2 x3 x4) := rfl
/-- The third round's new cell state, -/
theorem cell3 : k0_pay81 c' h a.1 a.2.1 a.2.2 b.1 b.2.1 b.2.2 x2 x3 x4
    = cell (gates x2 x3 x4 (beside h (merge a b)) h) c' := rfl
/-- its new hidden state, -/
theorem hidden3 : k0_pay82 c' h a.1 a.2.1 a.2.2 b.1 b.2.1 b.2.2 x2 x3 x4
    = hidden (gates x2 x3 x4 (beside h (merge a b)) h) (cell (gates x2 x3 x4 (beside h (merge a b)) h) c') := rfl
/-- the high part of it, -/
theorem high3 : k0_pay83 c' h a.1 a.2.1 a.2.2 b.1 b.2.1 b.2.2 x2 x3 x4
    = qHi (k0_pay82 c' h a.1 a.2.1 a.2.2 b.1 b.2.1 b.2.2 x2 x3 x4) := rfl
/-- and the low part. -/
theorem low3 : k0_pay84 c' h a.1 a.2.1 a.2.2 b.1 b.2.1 b.2.2 x2 x3 x4
    = qLo (k0_pay82 c' h a.1 a.2.1 a.2.2 b.1 b.2.1 b.2.2 x2 x3 x4) := rfl
/-- The fourth round's new hidden state. -/
theorem hidden4 : k0_pay94 c' h a.1 a.2.1 a.2.2 b.1 b.2.1 b.2.2 x2 x3 x4
    = hidden (gates x2 x3 x4 (beside h (merge a b)) h) (cell (gates x2 x3 x4 (beside h (merge a b)) h) c') := rfl
/-- The result block. -/
theorem result4 : k0_pay12 h a.1 a.2.1 a.2.2 b.1 b.2.1 b.2.2 = beside h (merge a b) := rfl

/-- Every round's passes start from nothing. -/
theorem start_eqs : ((k0_pay54 (F := Ideal), k0_pay55 (F := Ideal), k0_pay56 (F := Ideal)) : Chain) = start
    ∧ ((k0_pay71 (F := Ideal), k0_pay72 (F := Ideal), k0_pay73 (F := Ideal)) : Chain) = start
    ∧ ((k0_pay85 (F := Ideal), k0_pay86 (Scalar.ofBits (F := Ideal) .f32 0x00000000#32), k0_pay87 (F := Ideal)) : Chain) = start
    ∧ ((k0_pay3 (F := Ideal), k0_pay4 (F := Ideal), k0_pay5 (F := Ideal)) : Chain) = start := ⟨rfl, rfl, rfl, rfl⟩

end

/-- The block the body leaves is what four rounds end with. -/
theorem out_eq (x2 : Vec Ideal S256x512 .f32) (x3 : Vec Ideal S128x512 .f32) (x4 : Vec Ideal S1x512 .f32) :
    out0_A_5 c arg0 harg0 arg1 harg1 arg2 harg2 arg3 harg3 arg4 harg4 arg5 harg5 x0 x1 x2 x3 x4 = final x0 x1 x2 x3 x4 := by
  have hz : (![0, 0] : Fin 2 → Nat) = fun _ => 0 := funext fun a => by fin_cases a <;> rfl
  have hf : final x0 x1 x2 x3 x4
      = (step x0 x1 x2 x3 x4 (step x0 x1 x2 x3 x4 (step x0 x1 x2 x3 x4 (step x0 x1 x2 x3 x4 State.init)))).qs := rfl
  have hs : (iota .tc S64x1 32 [0] iota_S64x1_d0_w32 : IVec S64x1 32) = segNo := rfl
  obtain ⟨s1, s2, s3, s4⟩ := start_eqs
  unfold out0_A_5
  rw [View.read_writes_eq_canon _ _ _ (cover0_A_5 c _ _ _ _ _ _ _ _ _ _ _ _ x0 x1 x2 x3 x4)]
  unfold kernelRun0_A
  dsimp only
  sl_unfold_words
  rw [View.canon_unit_zero hz, hf]
  simp only [View.readAt_eq_ld, harg2.read_unread, harg3.read_unread, harg4.read_unread,
    View.ld_unit_zero (S := S256x512) hz, View.ld_unit_zero (S := S128x512) hz, View.ld_unit_zero (S := S1x512) hz,
    loop_t1 (hs := hs)]
  rw [loop_t2, loop_t3, loop_t4]
  simp only [both, Carry.fst, Carry.snd, high1, low1, hidden1, cell1, cell2, hidden2, high2,
    low2, cell3, hidden3, high3, low3, hidden4, result4, s1, s2, s3, s4, hs, step, pool]

end Cert.KernelIdeal.Value

end
-- ==== Proof.KernelValue.lean ====
/- What the kernel's result array holds after a run: `final` of the arrays the host hands to the kernel.

   The kernel has one grid point and every window is a whole array, so each input block is the whole input array
   (`blk_rows` … `blk_bias`) and the one written block is the whole result (`result_eq`). `run` states the run. -/
module

public import proofs.«01_k».proof.Proof.KernelRun
public import proofs.«01_k».proof.Proof.Gen.KernelIdeal.Value

@[expose] public section

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The rows as the kernel gets them. -/
def hostRows (x : Vec Ideal S100000x128 .f32) : Vec Ideal S100000x128 .bf16 :=
  (truncf .bf16 (x : FVec Ideal S100000x128 .f32) bitsLt_bf16_f32 : FVec Ideal S100000x128 .bf16)

/-- The rows' segment numbers, in four blocks of 25000. -/
def hostSegs (s : Vec Ideal S100000 .i32) : Vec Ideal S4x1x25000 .i32 := shapeCast S4x1x25000 s shapeCasts_S100000_S4x1x25000

/-- The input weights, transposed. -/
def hostW2 (w : Vec Ideal S512x256 .f32) : Vec Ideal S256x512 .f32 := transpose S256x512 [1, 0] w transposes_S512x256_S256x512_1_0

/-- The hidden weights, transposed. -/
def hostW3 (w : Vec Ideal S512x128 .f32) : Vec Ideal S128x512 .f32 := transpose S128x512 [1, 0] w transposes_S512x128_S128x512_1_0

/-- The two biases added, as one row. -/
def hostBias (a b : Vec Ideal S512 .f32) : Vec Ideal S1x512 .f32 := shapeCast S1x512 (addf (F := Ideal) (φ := .f32) a b) shapeCasts_S512_S1x512

/-- After the host operations the first kernel input holds the rows. -/
theorem V_rows : V m c main_v0 = hostRows (m ((c : Thread nD τ).loc main_arg0)) := by
  unfold V hostOps0
  simp only [StableHlo.after_cons, StableHlo.after_nil]
  rw [StableHlo.reshape_result_ne _ _ _ _ _ _ _ (by decide), StableHlo.binary_result_ne _ _ _ _ _ _ _ _ (by decide),
    StableHlo.unary_result_ne _ _ _ _ _ _ (by decide), StableHlo.unary_result_ne _ _ _ _ _ _ (by decide),
    StableHlo.reshape_result_ne _ _ _ _ _ _ _ (by decide), StableHlo.unary_result]
  rfl

/-- After the host operations the second kernel input holds the segment numbers. -/
theorem V_segs : V m c main_v1 = hostSegs (m ((c : Thread nD τ).loc main_arg1)) := by
  unfold V hostOps0
  simp only [StableHlo.after_cons, StableHlo.after_nil]
  rw [StableHlo.reshape_result_ne _ _ _ _ _ _ _ (by decide), StableHlo.binary_result_ne _ _ _ _ _ _ _ _ (by decide),
    StableHlo.unary_result_ne _ _ _ _ _ _ (by decide), StableHlo.unary_result_ne _ _ _ _ _ _ (by decide),
    StableHlo.reshape_result, StableHlo.unary_result_ne _ _ _ _ _ _ (by decide)]
  rfl

/-- After the host operations the third kernel input holds the transposed input weights. -/
theorem V_w2 : V m c main_v2 = hostW2 (m ((c : Thread nD τ).loc main_arg2)) := by
  unfold V hostOps0
  simp only [StableHlo.after_cons, StableHlo.after_nil]
  rw [StableHlo.reshape_result_ne _ _ _ _ _ _ _ (by decide), StableHlo.binary_result_ne _ _ _ _ _ _ _ _ (by decide),
    StableHlo.unary_result_ne _ _ _ _ _ _ (by decide), StableHlo.unary_result, StableHlo.reshape_result_ne _ _ _ _ _ _ _ (by decide),
    StableHlo.unary_result_ne _ _ _ _ _ _ (by decide)]
  rfl

/-- After the host operations the fourth kernel input holds the transposed hidden weights. -/
theorem V_w3 : V m c main_v3 = hostW3 (m ((c : Thread nD τ).loc main_arg3)) := by
  unfold V hostOps0
  simp only [StableHlo.after_cons, StableHlo.after_nil]
  rw [StableHlo.reshape_result_ne _ _ _ _ _ _ _ (by decide), StableHlo.binary_result_ne _ _ _ _ _ _ _ _ (by decide),
    StableHlo.unary_result, StableHlo.unary_result_ne _ _ _ _ _ _ (by decide), StableHlo.reshape_result_ne _ _ _ _ _ _ _ (by decide),
    StableHlo.unary_result_ne _ _ _ _ _ _ (by decide)]
  rfl

/-- After the host operations the fifth kernel input holds the sum of the biases. -/
theorem V_bias : V m c main_v5 = hostBias (m ((c : Thread nD τ).loc main_arg4)) (m ((c : Thread nD τ).loc main_arg5)) := by
  unfold V hostOps0
  simp only [StableHlo.after_cons, StableHlo.after_nil]
  rw [StableHlo.reshape_result, StableHlo.binary_result]
  rfl

/-- The rows' block is the whole array. -/
theorem blk_rows (t : Fin cfg0.N) : (iblk m c 0 t : Vec Ideal S100000x128 .bf16) = hostRows (m ((c : Thread nD τ).loc main_arg0)) := by
  obtain rfl := fin_N0 t
  have hz : (fun a => win0_0.index t0_0 a * main_v0.ty.shape.size a) = fun _ => 0 := funext fun a => by fin_cases a <;> decide
  exact (Memref.read_access_unit_zero (Elt Ideal) main_v0 hz (fun a => by rw [congrFun hz a]; simp) _).trans (V_rows m c)

/-- The segment numbers' block is the whole array. -/
theorem blk_segs (t : Fin cfg0.N) : (iblk m c 1 t : Vec Ideal S4x1x25000 .i32) = hostSegs (m ((c : Thread nD τ).loc main_arg1)) := by
  obtain rfl := fin_N0 t
  have hz : (fun a => win0_1.index t0_0 a * main_v1.ty.shape.size a) = fun _ => 0 := funext fun a => by fin_cases a <;> decide
  exact (Memref.read_access_unit_zero (Elt Ideal) main_v1 hz (fun a => by rw [congrFun hz a]; simp) _).trans (V_segs m c)

/-- The input weights' block is the whole array. -/
theorem blk_w2 (t : Fin cfg0.N) : (iblk m c 2 t : Vec Ideal S256x512 .f32) = hostW2 (m ((c : Thread nD τ).loc main_arg2)) := by
  obtain rfl := fin_N0 t
  have hz : (fun a => win0_2.index t0_0 a * main_v2.ty.shape.size a) = fun _ => 0 := funext fun a => by fin_cases a <;> decide
  exact (Memref.read_access_unit_zero (Elt Ideal) main_v2 hz (fun a => by rw [congrFun hz a]; simp) _).trans (V_w2 m c)

/-- The hidden weights' block is the whole array. -/
theorem blk_w3 (t : Fin cfg0.N) : (iblk m c 3 t : Vec Ideal S128x512 .f32) = hostW3 (m ((c : Thread nD τ).loc main_arg3)) := by
  obtain rfl := fin_N0 t
  have hz : (fun a => win0_3.index t0_0 a * main_v3.ty.shape.size a) = fun _ => 0 := funext fun a => by fin_cases a <;> decide
  exact (Memref.read_access_unit_zero (Elt Ideal) main_v3 hz (fun a => by rw [congrFun hz a]; simp) _).trans (V_w3 m c)

/-- The bias's block is the whole array. -/
theorem blk_bias (t : Fin cfg0.N) : (iblk m c 4 t : Vec Ideal S1x512 .f32)
    = hostBias (m ((c : Thread nD τ).loc main_arg4)) (m ((c : Thread nD τ).loc main_arg5)) := by
  obtain rfl := fin_N0 t
  have hz : (fun a => win0_4.index t0_0 a * main_v5.ty.shape.size a) = fun _ => 0 := funext fun a => by fin_cases a <;> decide
  exact (Memref.read_access_unit_zero (Elt Ideal) main_v5 hz (fun a => by rw [congrFun hz a]; simp) _).trans (V_bias m c)

/-- The kernel's result as a function of its six arguments. -/
def kernelValue (x : Vec Ideal S100000x128 .f32) (s : Vec Ideal S100000 .i32) (w2 : Vec Ideal S512x256 .f32)
    (w3 : Vec Ideal S512x128 .f32) (b b' : Vec Ideal S512 .f32) : Vec Ideal S64x256 .f32 :=
  final (hostRows x) (hostSegs s) (hostW2 w2) (hostW3 w3) (hostBias b b')

/-- That result at the launched arguments of device `c`. -/
def result : Buf (Elt Ideal) ((c : Thread nD τ).loc main_v6) :=
  kernelValue (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the one grid point writes back is the whole result. -/
theorem flushed_eq (t : Fin cfg0.N) (_ : (cfg0.win 5).flush t = true) :
    (dats m 0 c).flushed 5 t = ((cfg0.win 5).blk t).view.read (Elt Ideal) (result m c) := by
  rw [flushed5_A, out_eq, blk_rows, blk_segs, blk_w2, blk_w3, blk_bias]
  obtain rfl := fin_N0 t
  have hz : (fun a => win0_5.index t0_0 a * main_v6.ty.shape.size a) = fun _ => 0 := funext fun a => by fin_cases a <;> decide
  exact (Memref.read_access_unit_zero (Elt Ideal) main_v6 hz (fun a => by rw [congrFun hz a]; simp) (result m c)).symm

/-- So the result array ends holding it. -/
theorem result_eq : (dats m 0 c).arrAt 5 cfg0.N = result m c :=
  (dats m 0 c).arrAt_eq_of_cover 5 (result m c) (flushed_eq m c) fun i =>
    ⟨t0_0, flush0_5 t0_0, by
      show i ∈ ((View.whole main_v6).slice (win0_5.rect t0_0)).set
      rw [View.set_slice_whole, Rect.mem_set_unit]
      intro a
      have h0 : (i 0 : Nat) < 64 := (i 0).isLt
      have h1 : (i 1 : Nat) < 256 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 64 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 256 from by decide +kernel]; omega⟩

end Cert.KernelIdeal.Value

end
-- ==== Proof.Softmax.lean ====
/- The arithmetic of softmax pooling over the extended reals, for one segment and one column.

   The rows of a segment are the indices `k` with `p k`; `e k` is the score of row `k` and `y k` its entry in the column.
   `mass` is the sum of the exponentials of the scores and `moment` the same sum weighted by the entries, so the pooled
   entry is `moment / mass`. A running pass keeps `(m, den, num)`: the maximum score so far and the two sums relative to
   it (`Holds`). `holds_absorb` takes in a block of rows, `merge_eq` reads the pooled entry off two passes, `direct_eq`
   off the textbook formula. -/
module

public import Idealize.ShloMosaic.Lib.ValueIdx

@[expose] public section

noncomputable section

namespace Cert.Pooling

open Idealize.ShloMosaic

variable {κ : Type} [Fintype κ] (p : κ → Prop) [DecidablePred p] (e y : κ → ℝ)

/-- The score of a row of the segment, and `-∞` for any other row. -/
def masked (k : κ) : EReal := if p k then (e k : EReal) else ⊥

/-- The sum of the exponentials of the segment's scores. -/
def mass : ℝ := ∑ k, if p k then Real.exp (e k) else 0

/-- The sum of the segment's entries, each weighted by the exponential of its score. -/
def moment : ℝ := ∑ k, if p k then Real.exp (e k) * y k else 0

/-- `m` is the maximum score of rows with sums `Z` and `N`: `-∞` when there are none, else a score of one of them. -/
def IsTop (Z N : ℝ) (m : EReal) : Prop :=
  (Z = 0 ∧ N = 0 ∧ m = ⊥) ∨ ∃ μ : ℝ, m = μ ∧ Real.exp μ ≤ Z

/-- A pass over rows with sums `Z` and `N` holds `(m, den, num)`: a score of one of the rows and the two sums relative to
    it, or nothing when there are no rows. -/
def Holds (Z N : ℝ) (m den num : EReal) : Prop :=
  (Z = 0 ∧ N = 0 ∧ m = ⊥ ∧ den = 0 ∧ num = 0)
    ∨ ∃ μ : ℝ, m = μ ∧ Real.exp μ ≤ Z ∧ den = ((Real.exp (-μ) * Z : ℝ) : EReal) ∧ num = ((Real.exp (-μ) * N : ℝ) : EReal)

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Before any row a pass holds `(-∞, 0, 0)`. -/
theorem holds_start : Holds 0 0 ⊥ 0 0 := Or.inl ⟨rfl, rfl, rfl, rfl, rfl⟩

/-- With no row of the segment there is nothing to sum. -/
theorem mass_none (h : ∀ k, ¬p k) : mass p e = 0 := by
  unfold mass; exact Finset.sum_eq_zero fun k _ => if_neg (h k)

/-- With no row of the segment there is nothing to sum. -/
theorem moment_none (h : ∀ k, ¬p k) : moment p e y = 0 := by
  unfold moment; exact Finset.sum_eq_zero fun k _ => if_neg (h k)

/-- The greatest masked score is the segment's maximum score. -/
theorem isTop_sup : IsTop (mass p e) (moment p e y) (Finset.univ.sup (masked p e)) := by
  by_cases h : ∃ k, p k
  · obtain ⟨k₁, h₁⟩ := h
    obtain ⟨k₀, -, h₀⟩ := Finset.exists_mem_eq_sup Finset.univ ⟨k₁, Finset.mem_univ _⟩ (masked p e)
    have hle : (e k₁ : EReal) ≤ masked p e k₀ := by
      rw [← h₀]
      exact le_trans (le_of_eq (if_pos h₁).symm) (Finset.le_sup (f := masked p e) (Finset.mem_univ k₁))
    have hp : p k₀ := by
      by_contra hn
      rw [masked, if_neg hn] at hle
      exact absurd (le_bot_iff.mp hle) (EReal.coe_ne_bot _)
    refine Or.inr ⟨e k₀, by rw [h₀, masked, if_pos hp], ?_⟩
    have := Finset.single_le_sum (f := fun k => if p k then Real.exp (e k) else 0)
      (fun k _ => by split <;> positivity) (Finset.mem_univ k₀)
    rw [mass]
    simpa only [if_pos hp] using this
  · have h' : ∀ k, ¬p k := fun k hk => h ⟨k, hk⟩
    refine Or.inl ⟨mass_none p e h', moment_none p e y h', ?_⟩
    exact (Finset.sup_eq_bot_iff _ _).mpr fun k _ => if_neg (h' k)

/-- The weight of a row relative to the maximum `μ`. -/
theorem exp_masked (μ : ℝ) (k : κ) :
    Ideal.exp (masked p e k - μ) = ((if p k then Real.exp (-μ) * Real.exp (e k) else 0 : ℝ) : EReal) := by
  unfold masked
  split
  · rw [← EReal.coe_sub, Ideal.exp_coe, ← Real.exp_add, neg_add_eq_sub]
  · rw [EReal.bot_sub, Ideal.exp_bot, EReal.coe_zero]

/-- The sum of the weights relative to `μ`. -/
theorem sum_weights (μ : ℝ) : ∑ k, Ideal.exp (masked p e k - μ) = ((Real.exp (-μ) * mass p e : ℝ) : EReal) := by
  simp only [exp_masked, ← coe_sum]
  congr 1
  rw [mass, Finset.mul_sum]
  exact Finset.sum_congr rfl fun k _ => by split <;> simp

/-- The weighted sum of the entries relative to `μ`. -/
theorem sum_weighted (μ : ℝ) :
    ∑ k, Ideal.exp (masked p e k - μ) * (y k : EReal) = ((Real.exp (-μ) * moment p e y : ℝ) : EReal) := by
  simp only [exp_masked, ← EReal.coe_mul, ← coe_sum]
  congr 1
  rw [moment, Finset.mul_sum]
  exact Finset.sum_congr rfl fun k _ => by split <;> ring

variable {p e y} in
/-- If the greatest masked score is `-∞`, every masked score is. -/
theorem masked_of_sup_bot (h : Finset.univ.sup (masked p e) = ⊥) (k : κ) : masked p e k = ⊥ :=
  (Finset.sup_eq_bot_iff _ _).mp h k (Finset.mem_univ k)

/-- A pass rescaled to a real maximum `μ'` holds its two sums relative to `μ'`. -/
theorem rescaled {Z N : ℝ} {m den num : EReal} (h : Holds Z N m den num) (μ' : ℝ) :
    den * Ideal.exp (m - μ') = ((Real.exp (-μ') * Z : ℝ) : EReal)
      ∧ num * Ideal.exp (m - μ') = ((Real.exp (-μ') * N : ℝ) : EReal) := by
  rcases h with ⟨rfl, rfl, rfl, rfl, rfl⟩ | ⟨μ, rfl, -, rfl, rfl⟩
  · simp
  · have hx : Real.exp (-μ') = Real.exp (-μ) * Real.exp (μ - μ') := by rw [← Real.exp_add]; congr 1; ring
    rw [← EReal.coe_sub, Ideal.exp_coe, ← EReal.coe_mul, ← EReal.coe_mul, hx]
    constructor <;> congr 1 <;> ring

/-- A pass has the maximum score of its rows. -/
theorem Holds.isTop {Z N : ℝ} {m den num : EReal} (h : Holds Z N m den num) : IsTop Z N m := by
  rcases h with ⟨hZ, hN, hm, -, -⟩ | ⟨μ, hm, hμ, -, -⟩
  · exact Or.inl ⟨hZ, hN, hm⟩
  · exact Or.inr ⟨μ, hm, hμ⟩

/-- A maximum score's rows have a nonnegative sum of exponentials. -/
theorem IsTop.nonneg {Z N : ℝ} {m : EReal} (h : IsTop Z N m) : 0 ≤ Z := by
  rcases h with ⟨rfl, -, -⟩ | ⟨μ, -, hμ⟩
  · exact le_rfl
  · exact (Real.exp_pos μ).le.trans hμ

/-- The maximum score of two disjoint sets of rows. -/
theorem IsTop.max {Z N Z' N' : ℝ} {m m' : EReal} (h : IsTop Z N m) (h' : IsTop Z' N' m') :
    IsTop (Z + Z') (N + N') (max m m') := by
  have hn := h.nonneg
  have hn' := h'.nonneg
  rcases h with ⟨rfl, rfl, rfl⟩ | ⟨μ, rfl, hμ⟩
  · simpa [IsTop] using h'
  · rcases h' with ⟨rfl, rfl, rfl⟩ | ⟨μ', rfl, hμ'⟩
    · exact Or.inr ⟨μ, by simp, by simpa using hμ⟩
    · refine Or.inr ⟨Max.max μ μ', (EReal.coe_strictMono.monotone.map_max).symm, ?_⟩
      rcases max_cases μ μ' with ⟨hm, -⟩ | ⟨hm, -⟩ <;> rw [hm] <;> linarith

/-- A block of rows taken into a pass. -/
theorem holds_absorb {Z N : ℝ} {m den num : EReal} (h : Holds Z N m den num) :
    Holds (Z + mass p e) (N + moment p e y) (max m (Finset.univ.sup (masked p e)))
      (den * Ideal.exp (m - max m (Finset.univ.sup (masked p e)))
        + ∑ k, Ideal.exp (masked p e k - max m (Finset.univ.sup (masked p e))))
      (num * Ideal.exp (m - max m (Finset.univ.sup (masked p e)))
        + ∑ k, Ideal.exp (masked p e k - max m (Finset.univ.sup (masked p e))) * (y k : EReal)) := by
  have ht := h.isTop.max (isTop_sup p e y)
  generalize hM : max m (Finset.univ.sup (masked p e)) = M at ht ⊢
  rcases ht with ⟨hZ, hN, rfl⟩ | ⟨μ, rfl, hμ⟩
  · have hb := max_eq_bot.mp hM
    rcases h with ⟨-, -, -, rfl, rfl⟩ | ⟨μ, hm, -⟩
    · refine Or.inl ⟨hZ, hN, rfl, ?_, ?_⟩ <;> simp [masked_of_sup_bot hb.2]
    · exact absurd (hm.symm.trans hb.1) (EReal.coe_ne_bot μ)
  · refine Or.inr ⟨μ, rfl, hμ, ?_, ?_⟩
    · rw [(rescaled h μ).1, sum_weights, ← EReal.coe_add, mul_add]
    · rw [(rescaled h μ).2, sum_weighted, ← EReal.coe_add, mul_add]

/-- A quotient of reals with a nonzero divisor. -/
theorem div_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- The pooled entry read off two passes over disjoint sets of rows; a sum of weights is at least one as soon as there is a
    row, so a lower bound `t ≤ 1` on it only matters when there is none. -/
theorem merge_eq {Z N Z' N' : ℝ} {m den num m' den' num' : EReal} (h : Holds Z N m den num) (h' : Holds Z' N' m' den' num')
    {t : EReal} (ht0 : 0 < t) (ht1 : t ≤ 1) :
    Ideal.div (num * Ideal.exp (m - max m m') + num' * Ideal.exp (m' - max m m'))
        (max (den * Ideal.exp (m - max m m') + den' * Ideal.exp (m' - max m m')) t)
      = (((N + N') / (Z + Z') : ℝ) : EReal) := by
  have htop := h.isTop.max h'.isTop
  generalize hM : max m m' = M at htop ⊢
  rcases htop with ⟨hZ, hN, rfl⟩ | ⟨μ, rfl, hμ⟩
  · have hb := max_eq_bot.mp hM
    rcases h with ⟨-, -, -, rfl, rfl⟩ | ⟨μ, hm, -⟩
    · rcases h' with ⟨-, -, -, rfl, rfl⟩ | ⟨μ, hm, -⟩
      · rw [hZ, hN]
        simp only [zero_mul, add_zero, max_eq_right ht0.le, div_zero, EReal.coe_zero]
        rw [Ideal.div, if_neg ht0.ne', zero_mul]
      · exact absurd (hm.symm.trans hb.2) (EReal.coe_ne_bot μ)
    · exact absurd (hm.symm.trans hb.1) (EReal.coe_ne_bot μ)
  · have hone : 1 ≤ Real.exp (-μ) * (Z + Z') := by
      calc (1 : ℝ) = Real.exp (-μ) * Real.exp μ := by rw [← Real.exp_add]; simp
        _ ≤ _ := mul_le_mul_of_nonneg_left hμ (Real.exp_pos _).le
    rw [(rescaled h μ).1, (rescaled h' μ).1, (rescaled h μ).2, (rescaled h' μ).2, ← EReal.coe_add, ← EReal.coe_add,
      ← mul_add, ← mul_add, max_eq_left (ht1.trans (by exact_mod_cast hone)), div_coe _ (by linarith : _ ≠ (0 : ℝ)),
      mul_div_mul_left _ _ (Real.exp_pos _).ne']

/-- The pooled entry by the textbook formula: each row of the segment weighted by its exponential relative to the maximum,
    over the sum of those. -/
theorem direct_eq :
    ∑ k ∈ Finset.univ.filter p,
        Ideal.div (Ideal.exp ((e k : EReal) - Finset.univ.sup (masked p e)))
            (∑ j ∈ Finset.univ.filter p, Ideal.exp ((e j : EReal) - Finset.univ.sup (masked p e))) * (y k : EReal)
      = ((moment p e y / mass p e : ℝ) : EReal) := by
  by_cases h : ∃ k, p k
  · obtain ⟨k₁, h₁⟩ := h
    obtain ⟨-, -, hb⟩ | ⟨μ, hm, hμ⟩ := isTop_sup p e y
    · have := masked_of_sup_bot hb k₁
      rw [masked, if_pos h₁] at this
      exact absurd this (EReal.coe_ne_bot _)
    have hpos : 0 < mass p e := (Real.exp_pos μ).trans_le hμ
    have hone : ∀ k, Ideal.exp ((e k : EReal) - (μ : EReal)) = ((Real.exp (-μ) * Real.exp (e k) : ℝ) : EReal) := fun k => by
      rw [← EReal.coe_sub, Ideal.exp_coe, ← Real.exp_add, neg_add_eq_sub]
    have hden : ∑ j ∈ Finset.univ.filter p, Real.exp (-μ) * Real.exp (e j) = Real.exp (-μ) * mass p e := by
      rw [← Finset.mul_sum, Finset.sum_filter, mass]
    have hne : Real.exp (-μ) * mass p e ≠ 0 := (mul_pos (Real.exp_pos _) hpos).ne'
    rw [hm]
    simp only [hone, ← coe_sum, hden, div_coe _ hne, ← EReal.coe_mul]
    congr 1
    rw [moment, ← Finset.sum_filter, Finset.sum_div]
    refine Finset.sum_congr rfl fun k _ => ?_
    rw [mul_div_mul_left _ _ (Real.exp_pos _).ne']
    ring
  · have h' : ∀ k, ¬p k := fun k hk => h ⟨k, hk⟩
    rw [Finset.filter_false_of_mem fun k _ => h' k, Finset.sum_empty, moment_none p e y h', zero_div, EReal.coe_zero]

end Cert.Pooling

end
-- ==== Proof.KernelRead.lean ====
/- The kernel's pass over the rows, read entry by entry.

   With real rows and a real hidden state, a block's scores are `masked` dot products (`scores_apply`), and taking a block
   into a pass is the step `Pooling.holds_absorb` speaks of (`holdsAt_absorb`). A pass therefore always holds the
   segment's sums relative to its running maximum, and merging two passes divides the sums (`pool_apply_blocks`). -/
module

public import proofs.«01_k».proof.Proof.KernelStep
public import proofs.«01_k».proof.Proof.Softmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.WordCmp

@[expose] public section

noncomputable section

namespace Cert.KernelIdeal.Value

open Cert.KernelIdeal Cert.KernelIdeal.Gen Idealize.ShloMosaic Idealize.ShloMosaic.TcCoe Idealize.ShloMosaic.ValueIdx
open Cert.Pooling
open scoped BigOperators

/-- The pattern of negative infinity. -/
theorem negInf_eq : Ideal.ofBits .f32 0xFF800000#32 = ⊥ := by simp [Ideal.ofBits, Ideal.ieee]

/-- The lower bound the kernel puts on a sum of weights, as a real. -/
theorem tiny_eq : Ideal.ofBits .f32 0x0DA24260#32 = ((10633824 * (2 : ℝ) ^ (-123 : ℤ) : ℝ) : EReal) := by
  simp [Ideal.ofBits, Ideal.ieee]

/-- The lower bound the kernel puts on a sum of weights is positive. -/
theorem tiny_pos : 0 < Ideal.ofBits .f32 0x0DA24260#32 := by
  rw [tiny_eq]
  exact_mod_cast (by positivity : (0 : ℝ) < 10633824 * (2 : ℝ) ^ (-123 : ℤ))

/-- The lower bound the kernel puts on a sum of weights is at most one. -/
theorem tiny_le : Ideal.ofBits .f32 0x0DA24260#32 ≤ 1 := by
  rw [tiny_eq]
  exact_mod_cast (by norm_num : (10633824 * (2 : ℝ) ^ (-123 : ℤ) : ℝ) ≤ 1)

/-- The named mask is negative infinity. -/
theorem mask_eq : Named.named (F := Ideal) κ (φ := .f32) "mask" 0xF149F2CA#32 = ⊥ :=
  (IdealRules.named_const.statement κ "mask" .f32 0xF149F2CA#32 ⊥ rfl).2.2

/-- The rank-2 index a row's reduction runs over. -/
theorem lift_row {a b : ℕ} (h : (⟨2, ![a, b]⟩ : Shape).Reduces [1] ⟨1, ![a]⟩) (i : Fin a) (k : Fin b) :
    h.lift (ix1 i) k = ix2 i k := by
  funext d
  match d with
  | ⟨0, _⟩ => exact Fin.ext rfl
  | ⟨1, _⟩ => exact Fin.ext rfl

/-- Segment numbers: row `b` holds the word `b`. -/
theorem segNo_apply (b : Fin 64) : segNo (ix2 b 0) = BitVec.ofNat 32 b.val := by
  show BitVec.ofNat 32 _ = _
  congr 1
  simp [ix2]

/-- The greatest entry of a row. -/
theorem rowMax_apply {a b : ℕ} (x : FVec Ideal ⟨2, ![a, b]⟩ .f32) (h : (⟨2, ![a, b]⟩ : Shape).Reduces [1] ⟨1, ![a]⟩)
    (hφ : FKind.Formats .f32) (hacc : 0xFF800000#32 = FKind.maximumf.neutral .f32 hφ) (i : Fin a) :
    multiReduction .maximumf [1] ⟨1, ![a]⟩ x 0xFF800000#32 h hφ hacc (ix1 i) = Finset.univ.sup fun k => x (ix2 i k) := by
  refine (Ideal.multiReduction_maximumf_single x _ h hφ hacc (ix1 i)).trans ?_
  rw [show FloatOps.ofBits (F := Ideal) .f32 0xFF800000#32 = ⊥ from negInf_eq]
  exact Finset.fold_congr fun k _ => congrArg x (lift_row h i k)

/-- The sum of a row. -/
theorem rowSum_apply {a b : ℕ} (x : FVec Ideal ⟨2, ![a, b]⟩ .f32) (h : (⟨2, ![a, b]⟩ : Shape).Reduces [1] ⟨1, ![a]⟩)
    (hφ : FKind.Formats .f32) (hacc : 0x00000000#32 = FKind.add.neutral .f32 hφ) (i : Fin a) :
    multiReduction .add [1] ⟨1, ![a]⟩ x 0x00000000#32 h hφ hacc (ix1 i) = ∑ k, x (ix2 i k) := by
  refine (Ideal.multiReduction_add_single x _ h hφ hacc (ix1 i)).trans ?_
  exact Finset.sum_congr rfl fun k _ => congrArg x (lift_row h i k)

section Block

variable (xb : Vec Ideal S25000x128 .bf16) (bb : Vec Ideal S1x1x25000 .i32) (q : FVec Ideal S64x128 .f32)
  (xr : Fin 25000 → Fin 128 → ℝ) (qr : Fin 64 → Fin 128 → ℝ)

/-- The rows of a block that belong to segment `b`. -/
abbrev inSeg (bb : Vec Ideal S1x1x25000 .i32) (b : Fin 64) (k : Fin 25000) : Prop := bb (ix3 0 0 k) = BitVec.ofNat 32 b.val

/-- The dot product of row `k` and segment `b`'s hidden state. -/
abbrev dotRow (xr : Fin 25000 → Fin 128 → ℝ) (qr : Fin 64 → Fin 128 → ℝ) (b : Fin 64) (k : Fin 25000) : ℝ :=
  ∑ d, xr k d * qr b d

variable (hx : ∀ k d, xb (ix2 k d) = ((xr k d : ℝ) : EReal)) (hq : ∀ b d, q (ix2 b d) = ((qr b d : ℝ) : EReal))

include hx hq in
/-- A block's score: the dot product where the row belongs to the segment, `-∞` elsewhere. The part of the hidden state
    that rounding drops is zero. -/
theorem scores_apply (b : Fin 64) (k : Fin 25000) :
    scores segNo (qHi q) (qLo q) xb bb (ix2 b k) = masked (inSeg bb b) (dotRow xr qr b) k := by
  have h1 : matmul (φ₂ := .bf16) dot_S64x128_S25000x128_S64x25000_1_1_0_0_n_n none (qHi q)
      (shapeCast S25000x128 xb shapeCasts_S25000x128_S25000x128) (constant S64x25000 .f32 0x00000000#32) (ix2 b k)
      = ((dotRow xr qr b k : ℝ) : EReal) := by
    refine (Ideal.matmul_transposedRhs_apply (φ₂ := .bf16) none (qHi q) _ _ b k).trans ?_
    rw [constant_apply, Ideal.ofBits_zero_f32, zero_add, shapeCast_self, dotRow, coe_sum]
    refine Finset.sum_congr rfl fun d _ => ?_
    rw [show qHi q (ix2 b d) = q (ix2 b d) from rfl, hx, hq, mul_comm, EReal.coe_mul]
  have h2 : matmul (φ₂ := .bf16) dot_S64x128_S25000x128_S64x25000_1_1_0_0_n_n none (qLo q)
      (shapeCast S25000x128 xb shapeCasts_S25000x128_S25000x128) (constant S64x25000 .f32 0x00000000#32) (ix2 b k)
      = 0 := by
    refine (Ideal.matmul_transposedRhs_apply (φ₂ := .bf16) none (qLo q) _ _ b k).trans ?_
    rw [constant_apply, Ideal.ofBits_zero_f32, zero_add]
    refine Finset.sum_eq_zero fun d _ => ?_
    rw [show qLo q (ix2 b d) = q (ix2 b d) - q (ix2 b d) from rfl, hq, ← EReal.coe_sub, sub_self, EReal.coe_zero, zero_mul]
  rw [scores, addf_apply, addf_apply, h1, h2, select_apply, add_zero, masked]
  have hc : cmpi .eq (broadcastTo S64x25000 (shapeCast S1x25000 bb shapeCasts_S1x1x25000_S1x25000) broadcasts_S1x25000_S64x25000)
      (broadcastTo S64x25000 segNo broadcasts_S64x1_S64x25000) (ix2 b k)
      = IntOp.cmpi .eq (bb (ix3 0 0 k)) (BitVec.ofNat 32 b.val) := by
    refine congrArg₂ (IntOp.cmpi .eq) ?_ ?_
    · exact (broadcastTo_1b_ab_apply _ _ b k).trans (shapeCast_1ab_ab_apply bb _ 0 k)
    · refine (broadcastTo_apply _ _ (ix2 b k) (ix2 b 0) fun a => ?_).trans (segNo_apply b)
      match a with
      | ⟨0, _⟩ => rfl
      | ⟨1, _⟩ => rfl
  rw [hc]
  by_cases h : bb (ix3 0 0 k) = BitVec.ofNat 32 b.val
  · rw [if_pos h, show IntOp.cmpi .eq (bb (ix3 0 0 k)) (BitVec.ofNat 32 b.val) = 1#1 by simp [IntOp.cmpi, h], select_one]
    show _ + Ideal.ofBits .f32 0x00000000#32 = _
    rw [Ideal.ofBits_zero_f32, add_zero]
  · rw [if_neg h, show IntOp.cmpi .eq (bb (ix3 0 0 k)) (BitVec.ofNat 32 b.val) = 0#1 from congrArg BitVec.ofBool (beq_false_of_ne h), select_zero]
    show _ + Ideal.ofBits .f32 0xFF800000#32 = _
    rw [negInf_eq, EReal.add_bot]

/-- The new maximum: the larger of the old one and the block's greatest score. -/
theorem newMax_apply (m : FVec Ideal S64x1 .f32) (E : FVec Ideal S64x25000 .f32) (b : Fin 64) :
    newMax m E (ix2 b 0) = max (m (ix2 b 0)) (Finset.univ.sup fun k => E (ix2 b k)) := by
  rw [newMax, maximumf_apply]
  exact congrArg (max _) ((shapeCast_a_a1_apply _ _ b 0).trans (rowMax_apply E _ _ _ b))

/-- The new sum of weights: the old one rescaled, plus the block's. -/
theorem newDen_apply (den s : FVec Ideal S64x1 .f32) (W : FVec Ideal S64x25000 .f32) (b : Fin 64) :
    newDen den s W (ix2 b 0) = den (ix2 b 0) * s (ix2 b 0) + ∑ k, W (ix2 b k) := by
  rw [newDen, addf_apply, mulf_apply]
  exact congrArg (fun t : EReal => den (ix2 b 0) * s (ix2 b 0) + t) ((shapeCast_a_a1_apply _ _ b 0).trans (rowSum_apply W _ _ _ b))

/-- A column spread over the rows of a result. -/
theorem column_apply {α : Type} {n : ℕ} (v : S64x1.Idx → α) (h : S64x1.Broadcasts ⟨2, ![64, n]⟩) (b : Fin 64) (d : Fin n) :
    broadcastTo ⟨2, ![64, n]⟩ v h (ix2 b d) = v (ix2 b 0) :=
  broadcastTo_apply v h (ix2 b d) (ix2 b 0) fun a => match a with
    | ⟨0, _⟩ => rfl
    | ⟨1, _⟩ => rfl

/-- The new weighted sum: the old one rescaled, plus the block's. -/
theorem newNum_apply (num : FVec Ideal S64x128 .f32) (s : FVec Ideal S64x1 .f32) (W : FVec Ideal S64x25000 .f32)
    (b : Fin 64) (d : Fin 128) :
    newNum num s W xb (ix2 b d) = num (ix2 b d) * s (ix2 b 0) + ∑ k, W (ix2 b k) * xb (ix2 k d) := by
  rw [newNum, addf_apply, mulf_apply]
  refine congrArg₂ (· + ·) (congrArg (_ * ·) (column_apply s _ b d)) ?_
  refine (Ideal.matmul_plain_apply (φ₂ := .bf16) none _ _ _ b d).trans ?_
  rw [constant_apply, Ideal.ofBits_zero_f32, zero_add, shapeCast_self]
  rfl

/-- A weight: the exponential of the score relative to the maximum. -/
theorem weights_apply (E : FVec Ideal S64x25000 .f32) (m : FVec Ideal S64x1 .f32) (b : Fin 64) (k : Fin 25000) :
    weights E m (ix2 b k) = Ideal.exp (E (ix2 b k) - m (ix2 b 0)) :=
  congrArg (fun t => Ideal.exp (E (ix2 b k) - t)) (column_apply m _ b k)

/-- At segment `b` and column `d` a pass holds the sums `Z` and `N`. -/
def HoldsAt (Z N : ℝ) (t : Chain) (b : Fin 64) (d : Fin 128) : Prop :=
  Holds Z N (t.1 (ix2 b 0)) (t.2.1 (ix2 b 0)) (t.2.2 (ix2 b d))

/-- Before any row a pass holds nothing. -/
theorem holdsAt_start (b : Fin 64) (d : Fin 128) : HoldsAt 0 0 start b d := by
  have h1 : start.1 (ix2 b 0) = ⊥ := mask_eq
  have h2 : start.2.1 (ix2 b 0) = 0 := Ideal.ofBits_zero_f32
  have h3 : start.2.2 (ix2 b d) = 0 := Ideal.ofBits_zero_f32
  rw [HoldsAt, h1, h2, h3]
  exact holds_start

include hx hq in
/-- Taking in a block adds the block's sums to those a pass holds. -/
theorem holdsAt_absorb {Z N : ℝ} {t : Chain} {b : Fin 64} {d : Fin 128} (h : HoldsAt Z N t b d) :
    HoldsAt (Z + mass (inSeg bb b) (dotRow xr qr b)) (N + moment (inSeg bb b) (dotRow xr qr b) fun k => xr k d)
      (absorb segNo (qHi q) (qLo q) xb bb t) b d := by
  have hm : newMax t.1 (scores segNo (qHi q) (qLo q) xb bb) (ix2 b 0)
      = max (t.1 (ix2 b 0)) (Finset.univ.sup (masked (inSeg bb b) (dotRow xr qr b))) := by
    rw [newMax_apply]
    exact congrArg (fun f => max _ (Finset.univ.sup f)) (funext fun k => scores_apply xb bb q xr qr hx hq b k)
  have key := holds_absorb (inSeg bb b) (dotRow xr qr b) (fun k => xr k d) h
  rw [← hm] at key
  simp only [HoldsAt, absorb, newDen_apply, newNum_apply, weights_apply, scores_apply xb bb q xr qr hx hq, hx]
  exact key

end Block

/-- Two merged passes: the sum of their weighted sums over the sum of their weights. -/
theorem merge_apply {Z N Z' N' : ℝ} {t t' : Chain} {b : Fin 64} {d : Fin 128} (h : HoldsAt Z N t b d)
    (h' : HoldsAt Z' N' t' b d) : merge t t' (ix2 b d) = (((N + N') / (Z + Z') : ℝ) : EReal) := by
  have key := merge_eq h h' tiny_pos tiny_le
  rw [← key, merge, divf_apply, addf_apply, mulf_apply, mulf_apply]
  refine congrArg₂ Ideal.div (congrArg₂ (· + ·) (congrArg (_ * ·) (column_apply _ _ b d)) (congrArg (_ * ·) (column_apply _ _ b d)))
    (column_apply _ _ b d)

end Cert.KernelIdeal.Value

end
-- ==== Proof.Pooled.lean ====
/- The pooled rows of the problem, as a formula: what both programs' pooled arrays hold when the rows and the hidden state are
   real. -/
module

public import proofs.«01_k».proof.Proof.Softmax
public import Idealize.ShloMosaic.Lib.ValueIdxCore

@[expose] public section

noncomputable section

namespace Cert.Pooling

open Idealize.ShloMosaic Idealize.ShloMosaic.ValueIdx
open scoped BigOperators

/-- The rows that belong to segment `b`. -/
abbrev member (s : IVec ⟨1, ![100000]⟩ 32) (b : Fin 64) (n : Fin 100000) : Prop := s (ix1 n) = BitVec.ofNat 32 b.val

/-- The score of row `n` against segment `b`'s hidden state. -/
abbrev score (xr : Fin 100000 → Fin 128 → ℝ) (qr : Fin 64 → Fin 128 → ℝ) (b : Fin 64) (n : Fin 100000) : ℝ :=
  ∑ d, xr n d * qr b d

/-- Segment `b`'s pooled entry in column `d`: its rows' entries averaged with the exponentials of their scores as weights,
    `0` for a segment with no row. -/
abbrev pooled (s : IVec ⟨1, ![100000]⟩ 32) (xr : Fin 100000 → Fin 128 → ℝ) (qr : Fin 64 → Fin 128 → ℝ) (b : Fin 64)
    (d : Fin 128) : ℝ :=
  moment (member s b) (score xr qr b) (fun n => xr n d) / mass (member s b) (score xr qr b)

end Cert.Pooling

end
-- ==== Proof.KernelPool.lean ====
/- The kernel's pooled rows, as the two sums of `Pooling` over all 100000 rows.

   The four blocks' sums add up to the sums over all rows (`sum_blocks`), so the merged passes give, per segment and
   column, the segment's weighted sum over its sum of weights (`pool_apply`). The hidden state a round computes is always
   real (`hidden_real`), being a product of a logistic value and a hyperbolic tangent. -/
module

public import proofs.«01_k».proof.Proof.KernelRead
public import proofs.«01_k».proof.Proof.Pooled
public import proofs.«01_k».proof.Proof.KernelValue

@[expose] public section

noncomputable section

namespace Cert.KernelIdeal.Value

open Cert.KernelIdeal Cert.KernelIdeal.Gen Idealize.ShloMosaic Idealize.ShloMosaic.TcCoe Idealize.ShloMosaic.ValueIdx
open Cert.Pooling
open scoped BigOperators

/-- Row `k` of block `c`, counted from the first row. -/
def rowNo (c : Fin 4) (k : Fin 25000) : Fin 100000 := ⟨25000 * c.val + k.val, by have := c.isLt; have := k.isLt; omega⟩

/-- A sum over all rows is the sum over the four blocks of the sums over each. -/
theorem sum_blocks (f : Fin 100000 → ℝ) :
    ∑ n, f n = (∑ k, f (rowNo 0 k) + ∑ k, f (rowNo 1 k)) + (∑ k, f (rowNo 2 k) + ∑ k, f (rowNo 3 k)) := by
  have h := Equiv.sum_comp (finProdFinEquiv (m := 4) (n := 25000)) f
  rw [Fintype.sum_prod_type] at h
  rw [← h, Fin.sum_univ_four, add_assoc]
  have e : ∀ (c : Fin 4) (k : Fin 25000), finProdFinEquiv (c, k) = rowNo c k := fun c k =>
    Fin.ext (by simp [finProdFinEquiv, rowNo, add_comm])
  simp only [e]

/-- A block's segment numbers, read off the whole list. -/
theorem segs_apply (s : Vec Ideal S100000 .i32) (c : Fin 4) (k : Fin 25000) :
    segsOf (hostSegs s) c (ix3 0 0 k) = s (ix1 (rowNo c k)) := by
  refine shapeCast_apply s _ (ix3 c 0 k) (ix1 (rowNo c k)) ?_
  rw [Shape.rowMajor_val_one, Shape.rowMajor_val_three]
  show 25000 * c.val + k.val = (c.val * 1 + 0) * 25000 + k.val
  ring

variable (x : Vec Ideal S100000x128 .f32) (s : Vec Ideal S100000 .i32) (q : FVec Ideal S64x128 .f32)
  (xr : Fin 100000 → Fin 128 → ℝ) (qr : Fin 64 → Fin 128 → ℝ)
  (hx : ∀ n d, x (ix2 n d) = ((xr n d : ℝ) : EReal)) (hq : ∀ b d, q (ix2 b d) = ((qr b d : ℝ) : EReal))

include hx hq in
/-- A pass over two blocks holds the two blocks' sums. -/
theorem holdsAt_chain (c c' : Fin 4) (b : Fin 64) (d : Fin 128) :
    HoldsAt
      ((∑ k, if member s b (rowNo c k) then Real.exp (score xr qr b (rowNo c k)) else 0)
        + ∑ k, if member s b (rowNo c' k) then Real.exp (score xr qr b (rowNo c' k)) else 0)
      ((∑ k, if member s b (rowNo c k) then Real.exp (score xr qr b (rowNo c k)) * xr (rowNo c k) d else 0)
        + ∑ k, if member s b (rowNo c' k) then Real.exp (score xr qr b (rowNo c' k)) * xr (rowNo c' k) d else 0)
      (chain segNo (qHi q) (qLo q) (hostRows x) (hostSegs s) c c' start) b d := by
  have hr : ∀ (c : Fin 4) (k : Fin 25000) (d : Fin 128), rowsOf (hostRows x) c (ix2 k d) = ((xr (rowNo c k) d : ℝ) : EReal) :=
    fun c k d => hx (rowNo c k) d
  have h := holdsAt_absorb (rowsOf (hostRows x) c') (segsOf (hostSegs s) c') q (fun k => xr (rowNo c' k)) qr (hr c') hq
    (holdsAt_absorb (rowsOf (hostRows x) c) (segsOf (hostSegs s) c) q (fun k => xr (rowNo c k)) qr (hr c) hq (holdsAt_start b d))
  simp only [mass, moment, inSeg, segs_apply, zero_add] at h
  exact h

include hx hq in
/-- The kernel's pooled rows. -/
theorem pool_apply (b : Fin 64) (d : Fin 128) :
    pool (hostRows x) (hostSegs s) q (ix2 b d) = ((pooled s xr qr b d : ℝ) : EReal) := by
  rw [pool, merge_apply (holdsAt_chain x s q xr qr hx hq 0 1 b d) (holdsAt_chain x s q xr qr hx hq 2 3 b d), pooled, mass,
    moment, sum_blocks, sum_blocks]

/-- A logistic value is real. -/
theorem logistic_real (z : EReal) : ∃ r : ℝ, Ideal.logistic z = (r : EReal) := by
  induction z with
  | bot => exact ⟨0, by simp⟩
  | coe z => exact ⟨_, Ideal.logistic_coe z⟩
  | top => exact ⟨1, by simp⟩

/-- A hyperbolic tangent is real. -/
theorem tanh_real (z : EReal) : ∃ r : ℝ, Ideal.tanh z = (r : EReal) := by
  induction z with
  | bot => exact ⟨-1, by rw [EReal.coe_neg, EReal.coe_one]; rfl⟩
  | coe z => exact ⟨Real.tanh z, rfl⟩
  | top => exact ⟨1, rfl⟩

/-- Every entry of a round's hidden state is real. -/
theorem hidden_real (g : FVec Ideal S64x512 .f32) (c : FVec Ideal S64x128 .f32) (i : S64x128.Idx) :
    ∃ r : ℝ, hidden g c i = (r : EReal) := by
  obtain ⟨a, ha⟩ := logistic_real (extractStridedSlice S64x128 ![0, 384] g slices_S64x512_o0_384_S64x128 i)
  obtain ⟨t, ht⟩ := tanh_real (c i)
  refine ⟨a * t, ?_⟩
  rw [EReal.coe_mul, ← ha, ← ht]
  rfl

end Cert.KernelIdeal.Value

end
-- ==== Proof.ReferenceRound.lean ====
/- The reference, round by round.

   `gates`, `cell` and `hidden` are the LSTM cell; `scores`, `tops`, `weights`, `sums`, `shares` and `readout` are the
   segment softmax and the weighted segment sum, in the order in which the reference computes them. `round` is one round,
   and the reference's result is what four of them end with (`result_eq`). -/
module

public import proofs.«01_k».proof.Proof.Gen.ReferenceIdeal.Read

@[expose] public section

noncomputable section

namespace Cert.ReferenceIdeal.Rounds

open Cert.ReferenceIdeal Cert.ReferenceIdeal.Gen Idealize.ShloMosaic Idealize.ShloMosaic.TcCoe

/-- Zero. -/
def zero : FVec Ideal S_ .f32 := constant S_ .f32 0x00000000#32

/-- A word in every row. -/
def everyRow (w : BitVec 32) : IVec S100000 32 := broadcastInDim S100000 ![] bcast_S_S100000 (constantI S_ 32 w)

/-- The rows' segment numbers as a column. -/
def listed (s : IVec S100000 32) : IVec S100000x1 32 := broadcastInDim S100000x1 ![0] bcast_S100000_S100000x1_0 s

/-- The rows' segment numbers as indices: a negative one counts from the end. -/
def wrapped (s : IVec S100000 32) : IVec S100000x1 32 :=
  listed (select (cmpi .slt s (everyRow 0#32)) (addi s (everyRow 64#32)) s)

/-- The logistic function, as the reference writes it. -/
def sigmoid (z : FVec Ideal S64x128 .f32) : FVec Ideal S64x128 .f32 :=
  Host.divf (broadcastInDim S64x128 ![] bcast_S_S64x128 (constant S_ .f32 0x3F800000#32))
    (addf (broadcastInDim S64x128 ![] bcast_S_S64x128 (constant S_ .f32 0x3F800000#32)) (Host.exp (Host.negf z)))

/-- A bias in every row. -/
def biasRows (b : FVec Ideal S512 .f32) : FVec Ideal S64x512 .f32 :=
  broadcastInDim S64x512 ![0, 1] bcast_S1x512_S64x512_0_1 (broadcastInDim S1x512 ![1] bcast_S512_S1x512_1 b)

/-- The four gates' pre-activations, side by side. -/
def gates (w2 : FVec Ideal S512x256 .f32) (w3 : FVec Ideal S512x128 .f32) (b b' : FVec Ideal S512 .f32)
    (qs : FVec Ideal S64x256 .f32) (h : FVec Ideal S64x128 .f32) : FVec Ideal S64x512 .f32 :=
  addf
    (addf
      (addf
        (Host.dotGeneral dot_S64x256_S256x512_S64x512_1_0_0_1_n_n none qs
          (transpose S256x512 [1, 0] w2 transposes_S512x256_S256x512_1_0))
        (biasRows b))
      (Host.dotGeneral dot_S64x128_S128x512_S64x512_1_0_0_1_n_n none h
        (transpose S128x512 [1, 0] w3 transposes_S512x128_S128x512_1_0)))
    (biasRows b')

/-- The new cell state. -/
def cell (g : FVec Ideal S64x512 .f32) (c : FVec Ideal S64x128 .f32) : FVec Ideal S64x128 .f32 :=
  addf (mulf (sigmoid (extractStridedSlice S64x128 ![0, 128] g slices_S64x512_S64x128_0_128)) c)
    (mulf (sigmoid (extractStridedSlice S64x128 ![0, 0] g slices_S64x512_S64x128_0_0))
      (Host.tanh (extractStridedSlice S64x128 ![0, 256] g slices_S64x512_S64x128_0_256)))

/-- The new hidden state. -/
def hidden (g : FVec Ideal S64x512 .f32) (c : FVec Ideal S64x128 .f32) : FVec Ideal S64x128 .f32 :=
  mulf (sigmoid (extractStridedSlice S64x128 ![0, 384] g slices_S64x512_S64x128_0_384)) (Host.tanh c)

/-- Each row's score: its dot product with its segment's hidden state. -/
def scores (x : FVec Ideal S100000x128 .f32) (s : IVec S100000 32) (h : FVec Ideal S64x128 .f32) : FVec Ideal S100000 .f32 :=
  Host.reduceAdd (mulf x (Host.gather gather_S64x128_S100000x1_S100000x128_1_0_n_n_0_1_1128 h (wrapped s))) zero
    reducesTo_S100000x128_S100000_d1 h_S_

/-- Every row's score in every segment: its own where it belongs to the segment, `-∞` where it does not. -/
def spread (s : IVec S100000 32) (e : FVec Ideal S100000 .f32) : FVec Ideal S64x100000 .f32 :=
  select
    (cmpi .eq
      (broadcastInDim S64x100000 ![0, 1] bcast_S1x100000_S64x100000_0_1 (broadcastInDim S1x100000 ![1] bcast_S100000_S1x100000_1 s))
      (broadcastInDim S64x100000 ![0, 1] bcast_S64x1_S64x100000_0_1 (broadcastInDim S64x1 ![0] bcast_S64_S64x1_0 (iotaInDim S64 32 0))))
    (broadcastInDim S64x100000 ![0, 1] bcast_S1x100000_S64x100000_0_1 (broadcastInDim S1x100000 ![1] bcast_S100000_S1x100000_1 e))
    (broadcastInDim S64x100000 ![] bcast_S_S64x100000 (id (constant S_ .f32 0xFF800000#32)))

/-- Each segment's greatest score. -/
def tops (s : IVec S100000 32) (e : FVec Ideal S100000 .f32) : FVec Ideal S64 .f32 :=
  Host.reduce FloatOps.maximumf (spread s e) (constant S_ .f32 0xFF800000#32) reducesTo_S64x100000_S64_d1 h_S_

/-- A segment's number, read in each of its rows. -/
def perRow (s : IVec S100000 32) (v : FVec Ideal S64 .f32) : FVec Ideal S100000 .f32 :=
  Host.gather gather_S64_S100000x1_S100000_n_0_n_n_0_1_1 v (wrapped s)

/-- Each row's weight: the exponential of its score relative to its segment's greatest. -/
def weights (s : IVec S100000 32) (e : FVec Ideal S100000 .f32) : FVec Ideal S100000 .f32 :=
  Host.exp (subf e (perRow s (tops s e)))

/-- Each segment's sum of weights. -/
def sums (s : IVec S100000 32) (w : FVec Ideal S100000 .f32) : FVec Ideal S64 .f32 :=
  Host.scatterAdd scatter_S64_S100000x1_S100000_n_0_0_1 (broadcastInDim S64 ![] bcast_S_S64 zero) (listed s) w

/-- Each row's share of its segment's sum of weights. -/
def shares (s : IVec S100000 32) (w : FVec Ideal S100000 .f32) : FVec Ideal S100000 .f32 :=
  Host.divf w (perRow s (sums s w))

/-- Each segment's sum of its rows, weighted by their shares. -/
def readout (x : FVec Ideal S100000x128 .f32) (s : IVec S100000 32) (a : FVec Ideal S100000 .f32) : FVec Ideal S64x128 .f32 :=
  Host.scatterAdd scatter_S64x128_S100000x1_S100000x128_1_0_0_1 (broadcastInDim S64x128 ![] bcast_S_S64x128 zero) (listed s)
    (mulf
      (broadcastInDim S100000x128 ![0, 1] bcast_S100000x1_S100000x128_0_1 (broadcastInDim S100000x1 ![0] bcast_S100000_S100000x1_0 a))
      x)

/-- The pooled rows of every segment for the hidden state `h`. -/
def pool (x : FVec Ideal S100000x128 .f32) (s : IVec S100000 32) (h : FVec Ideal S64x128 .f32) : FVec Ideal S64x128 .f32 :=
  readout x s (shares s (weights s (scores x s h)))

/-- The hidden state and the pooled rows side by side. -/
def beside (h r : FVec Ideal S64x128 .f32) : FVec Ideal S64x256 .f32 :=
  concatenate S64x256 1 [⟨S64x128, h⟩, ⟨S64x128, r⟩] concatenates_S64x128_S64x128_S64x256_d1

/-- What a round hands to the next. -/
structure Round where
  /-- hidden state and pooled rows, side by side -/
  qs : FVec Ideal S64x256 .f32
  /-- hidden state -/
  h : FVec Ideal S64x128 .f32
  /-- cell state -/
  c : FVec Ideal S64x128 .f32

/-- All zeros. -/
def Round.init : Round :=
  ⟨broadcastInDim S64x256 ![] bcast_S_S64x256 zero, broadcastInDim S64x128 ![] bcast_S_S64x128 zero,
    broadcastInDim S64x128 ![] bcast_S_S64x128 zero⟩

variable (x : FVec Ideal S100000x128 .f32) (s : IVec S100000 32) (w2 : FVec Ideal S512x256 .f32) (w3 : FVec Ideal S512x128 .f32)
  (b b' : FVec Ideal S512 .f32)

/-- One round. -/
def round (t : Round) : Round where
  qs := beside (hidden (gates w2 w3 b b' t.qs t.h) (cell (gates w2 w3 b b' t.qs t.h) t.c))
    (pool x s (hidden (gates w2 w3 b b' t.qs t.h) (cell (gates w2 w3 b b' t.qs t.h) t.c)))
  h := hidden (gates w2 w3 b b' t.qs t.h) (cell (gates w2 w3 b b' t.qs t.h) t.c)
  c := cell (gates w2 w3 b b' t.qs t.h) t.c

/-- The arrays the reference holds after one round. -/
def held1 : Round :=
  ⟨Read.val_main_v86 (F := Ideal) x s w2 w3 b b', Read.val_main_v41 (F := Ideal) w2 w3 b b', Read.val_main_v39 (F := Ideal) w2 w3 b b'⟩

/-- The arrays the reference holds after two rounds. -/
def held2 : Round :=
  ⟨Read.val_main_v170 (F := Ideal) x s w2 w3 b b', Read.val_main_v125 (F := Ideal) x s w2 w3 b b',
    Read.val_main_v123 (F := Ideal) x s w2 w3 b b'⟩

/-- The arrays the reference holds after three rounds. -/
def held3 : Round :=
  ⟨Read.val_main_v254 (F := Ideal) x s w2 w3 b b', Read.val_main_v209 (F := Ideal) x s w2 w3 b b',
    Read.val_main_v207 (F := Ideal) x s w2 w3 b b'⟩

/-- The first round starts from zeros. -/
theorem held1_eq : held1 x s w2 w3 b b' = round x s w2 w3 b b' Round.init := rfl

/-- The second round starts from what the first ends with. -/
theorem held2_eq : held2 x s w2 w3 b b' = round x s w2 w3 b b' (held1 x s w2 w3 b b') := rfl

/-- The third round starts from what the second ends with. -/
theorem held3_eq : held3 x s w2 w3 b b' = round x s w2 w3 b b' (held2 x s w2 w3 b b') := rfl

/-- The result is the pair the fourth round ends with, started from what the third ends with. -/
theorem held4_eq : Read.val_main_v338 (F := Ideal) x s w2 w3 b b' = (round x s w2 w3 b b' (held3 x s w2 w3 b b')).qs := rfl

/-- The reference's result is what four rounds end with. -/
theorem result_eq : Read.val_main_v338 (F := Ideal) x s w2 w3 b b' = ((round x s w2 w3 b b')^[4] Round.init).qs := by
  rw [held4_eq, held3_eq, held2_eq, held1_eq]
  rfl

end Cert.ReferenceIdeal.Rounds

end
-- ==== Proof.Landing.lean ====
/- Where the updates of a segment sum land.

   A segment sum is a scatter that adds: update `n` goes to the entry its index word names, read as a signed number, and is
   dropped if there is no such entry. `segmentSum_apply` reads one of numbers, `segmentSumRows_apply` one of rows. -/
module

public import Idealize.ShloMosaic.PureOps.Ideal.Laws
public import Idealize.ShloMosaic.Lib.ValueIdxCore
public import Idealize.ShloMosaic.Lib.StableHlo.Predicate

@[expose] public section

noncomputable section

namespace Cert.Landing

open Idealize.ShloMosaic Idealize.ShloMosaic.ValueIdx
open scoped BigOperators

variable {B D N : ℕ}

/-- A word, read signed, is a small number exactly when it is that number's word. -/
theorem toInt_eq_iff (w : BitVec 32) {b : ℕ} (hb : b < 2 ^ 31) : w.toInt = (b : ℤ) ↔ w = BitVec.ofNat 32 b := by
  rw [← StableHlo.Predicate.toInt_ofNat_small b hb, BitVec.toInt_inj]

/-- The dimension numbers of a segment sum of `N` numbers into `B` segments. -/
abbrev numDims (B N : ℕ) (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-- The dimension numbers of a segment sum of `N` rows of `D` numbers into `B` segments. -/
abbrev rowDims (B D N : ℕ) (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-- Number `n` lands at segment `b` exactly when its index word, read signed, is `b`. -/
theorem num_lands (wf : ScatterDims.WF ⟨1, ![B]⟩ ⟨2, ![N, 1]⟩ ⟨1, ![N]⟩ [] [0] [0] 1) (idx : IVec ⟨2, ![N, 1]⟩ 32)
    (n : Fin N) (b : Fin B) :
    (numDims B N wf).resultIdx? (ix1 n) idx = some (ix1 b) ↔ (idx (ix2 n 0)).toInt = (b.val : ℤ) := by
  have hs : (numDims B N wf).start (ix1 n) idx 0 = (idx (ix2 n 0)).toInt := by
    unfold ScatterDims.start
    rw [dif_pos (List.mem_singleton.mpr rfl)]
    refine congrArg (fun k => (idx k).toInt) (funext fun a => Fin.ext ?_)
    match a with
    | ⟨0, _⟩ => rfl
    | ⟨1, _⟩ => rfl
  have hw : (numDims B N wf).window (ix1 n) 0 = 0 := rfl
  have hb := b.isLt
  unfold ScatterDims.resultIdx?
  constructor
  · intro h
    split at h
    · next hin =>
      have h0 := congrArg Fin.val (congrFun (Option.some.inj h) 0)
      have h1 := hin 0
      change ((numDims B N wf).start (ix1 n) idx 0 + ((numDims B N wf).window (ix1 n) 0 : ℕ)).toNat = b.val at h0
      rw [hs, hw] at h0 h1
      omega
    · cases h
  · intro h
    rw [dif_pos]
    · refine congrArg some (funext fun a => Fin.ext ?_)
      obtain rfl : a = 0 := Subsingleton.elim _ _
      show ((numDims B N wf).start (ix1 n) idx 0 + ((numDims B N wf).window (ix1 n) 0 : ℕ)).toNat = b.val
      rw [hs, hw]
      omega
    · intro a
      obtain rfl : a = 0 := Subsingleton.elim _ _
      rw [hs, hw]
      show 0 ≤ _ ∧ _ < ((B : ℕ) : ℤ)
      omega

/-- Column `d` of row `n` lands at column `d'` of segment `b` exactly when the row's index word, read signed, is `b` and the
    two columns are the same. -/
theorem row_lands (wf : ScatterDims.WF ⟨2, ![B, D]⟩ ⟨2, ![N, 1]⟩ ⟨2, ![N, D]⟩ [1] [0] [0] 1) (idx : IVec ⟨2, ![N, 1]⟩ 32)
    (n : Fin N) (d : Fin D) (b : Fin B) (d' : Fin D) :
    (rowDims B D N wf).resultIdx? (ix2 n d) idx = some (ix2 b d') ↔ (idx (ix2 n 0)).toInt = (b.val : ℤ) ∧ d = d' := by
  have hs : (rowDims B D N wf).start (ix2 n d) idx 0 = (idx (ix2 n 0)).toInt := by
    unfold ScatterDims.start
    rw [dif_pos (List.mem_singleton.mpr rfl)]
    refine congrArg (fun k => (idx k).toInt) (funext fun a => Fin.ext ?_)
    match a with
    | ⟨0, _⟩ => rfl
    | ⟨1, _⟩ => rfl
  have hs1 : (rowDims B D N wf).start (ix2 n d) idx 1 = 0 := rfl
  have hw : (rowDims B D N wf).window (ix2 n d) 0 = 0 := rfl
  have hw1 : (rowDims B D N wf).window (ix2 n d) 1 = d.val := rfl
  have hb := b.isLt
  have hd := d.isLt
  unfold ScatterDims.resultIdx?
  constructor
  · intro h
    split at h
    · next hin =>
      have h0 := congrArg Fin.val (congrFun (Option.some.inj h) 0)
      have h1 := congrArg Fin.val (congrFun (Option.some.inj h) 1)
      have h2 := hin 0
      change ((rowDims B D N wf).start (ix2 n d) idx 0 + ((rowDims B D N wf).window (ix2 n d) 0 : ℕ)).toNat = b.val at h0
      change ((rowDims B D N wf).start (ix2 n d) idx 1 + ((rowDims B D N wf).window (ix2 n d) 1 : ℕ)).toNat = d'.val at h1
      rw [hs, hw] at h0 h2
      rw [hs1, hw1] at h1
      exact ⟨by omega, Fin.ext (by omega)⟩
    · cases h
  · rintro ⟨h, rfl⟩
    rw [dif_pos]
    · refine congrArg some (funext fun a => Fin.ext ?_)
      match a with
      | ⟨0, _⟩ =>
        show ((rowDims B D N wf).start (ix2 n d) idx 0 + ((rowDims B D N wf).window (ix2 n d) 0 : ℕ)).toNat = b.val
        rw [hs, hw]
        omega
      | ⟨1, _⟩ =>
        show ((rowDims B D N wf).start (ix2 n d) idx 1 + ((rowDims B D N wf).window (ix2 n d) 1 : ℕ)).toNat = d.val
        rw [hs1, hw1]
        omega
    · intro a
      match a with
      | ⟨0, _⟩ =>
        show 0 ≤ (rowDims B D N wf).start (ix2 n d) idx 0 + ((rowDims B D N wf).window (ix2 n d) 0 : ℕ)
          ∧ (rowDims B D N wf).start (ix2 n d) idx 0 + ((rowDims B D N wf).window (ix2 n d) 0 : ℕ) < ((B : ℕ) : ℤ)
        rw [hs, hw]
        omega
      | ⟨1, _⟩ =>
        show 0 ≤ (rowDims B D N wf).start (ix2 n d) idx 1 + ((rowDims B D N wf).window (ix2 n d) 1 : ℕ)
          ∧ (rowDims B D N wf).start (ix2 n d) idx 1 + ((rowDims B D N wf).window (ix2 n d) 1 : ℕ) < ((D : ℕ) : ℤ)
        rw [hs1, hw1]
        omega

/-- A segment sum of numbers: what was there plus the numbers whose index is the segment's. -/
theorem segmentSum_apply (hB : B ≤ 2 ^ 31) (wf : ScatterDims.WF ⟨1, ![B]⟩ ⟨2, ![N, 1]⟩ ⟨1, ![N]⟩ [] [0] [0] 1)
    (x : FVec Ideal ⟨1, ![B]⟩ .f32) (idx : IVec ⟨2, ![N, 1]⟩ 32) (upd : FVec Ideal ⟨1, ![N]⟩ .f32) (b : Fin B) :
    Host.scatterAdd (numDims B N wf) x idx upd (ix1 b)
      = x (ix1 b) + ∑ n ∈ Finset.univ.filter (fun n : Fin N => idx (ix2 n 0) = BitVec.ofNat 32 b.val), upd (ix1 n) := by
  show x (ix1 b) + ∑ j ∈ Finset.univ.filter (fun j => (numDims B N wf).resultIdx? j idx = some (ix1 b)), upd j = _
  refine congrArg (fun t => x (ix1 b) + t) (Finset.sum_nbij' (fun j => j 0) (fun n => ix1 n) ?_ ?_ ?_ ?_ ?_)
  · intro j hj
    rw [eq_ix1 j] at hj
    exact Finset.mem_filter.2 ⟨Finset.mem_univ _,
      (toInt_eq_iff _ (b.isLt.trans_le hB)).1 ((num_lands wf idx _ b).1 (Finset.mem_filter.1 hj).2)⟩
  · intro n hn
    exact Finset.mem_filter.2 ⟨Finset.mem_univ _,
      (num_lands wf idx n b).2 ((toInt_eq_iff _ (b.isLt.trans_le hB)).2 (Finset.mem_filter.1 hn).2)⟩
  · intro j _; exact (eq_ix1 j).symm
  · intro n _; rfl
  · intro j _; exact congrArg upd (eq_ix1 j)

/-- A segment sum of rows: what was there plus the rows whose index is the segment's, column by column. -/
theorem segmentSumRows_apply (hB : B ≤ 2 ^ 31) (wf : ScatterDims.WF ⟨2, ![B, D]⟩ ⟨2, ![N, 1]⟩ ⟨2, ![N, D]⟩ [1] [0] [0] 1)
    (x : FVec Ideal ⟨2, ![B, D]⟩ .f32) (idx : IVec ⟨2, ![N, 1]⟩ 32) (upd : FVec Ideal ⟨2, ![N, D]⟩ .f32) (b : Fin B) (d : Fin D) :
    Host.scatterAdd (rowDims B D N wf) x idx upd (ix2 b d)
      = x (ix2 b d) + ∑ n ∈ Finset.univ.filter (fun n : Fin N => idx (ix2 n 0) = BitVec.ofNat 32 b.val), upd (ix2 n d) := by
  show x (ix2 b d) + ∑ j ∈ Finset.univ.filter (fun j => (rowDims B D N wf).resultIdx? j idx = some (ix2 b d)), upd j = _
  have key : ∀ j, (rowDims B D N wf).resultIdx? j idx = some (ix2 b d)
      → idx (ix2 (j 0) 0) = BitVec.ofNat 32 b.val ∧ j 1 = d := fun j hj => by
    rw [eq_ix2 j] at hj
    have h := (row_lands wf idx _ _ b d).1 hj
    exact ⟨(toInt_eq_iff _ (b.isLt.trans_le hB)).1 h.1, h.2⟩
  refine congrArg (fun t => x (ix2 b d) + t) (Finset.sum_nbij' (fun j => j 0) (fun n => ix2 n d) ?_ ?_ ?_ ?_ ?_)
  · intro j hj
    exact Finset.mem_filter.2 ⟨Finset.mem_univ _, (key j (Finset.mem_filter.1 hj).2).1⟩
  · intro n hn
    exact Finset.mem_filter.2 ⟨Finset.mem_univ _,
      (row_lands wf idx n d b d).2 ⟨(toInt_eq_iff _ (b.isLt.trans_le hB)).2 (Finset.mem_filter.1 hn).2, rfl⟩⟩
  · intro j hj
    have h := (key j (Finset.mem_filter.1 hj).2).2
    show ix2 (j 0) d = j
    rw [← h]
    exact (eq_ix2 j).symm
  · intro n _; rfl
  · intro j hj
    have h := (key j (Finset.mem_filter.1 hj).2).2
    show upd j = upd (ix2 (j 0) d)
    rw [← h]
    exact congrArg upd (eq_ix2 j)

end Cert.Landing

end
-- ==== Proof.ReferenceRead.lean ====
/- The reference's pooled rows, read entry by entry.

   Only the rows of a segment matter to its entries, and a row of segment `b` reads segment `b`'s entry wherever the reference
   looks a segment's number up (`perRow_apply`). With real rows and a real hidden state the segment softmax is therefore the
   formula of `Pooling` (`pool_apply`). -/
module

public import proofs.«01_k».proof.Proof.ReferenceRound
public import proofs.«01_k».proof.Proof.Pooled
public import proofs.«01_k».proof.Proof.Landing
public import Idealize.ShloMosaic.Lib.Routing.OpsSet
public import Idealize.ShloMosaic.Lib.IdealHost

@[expose] public section

noncomputable section

namespace Cert.ReferenceIdeal.Rounds

open Cert.ReferenceIdeal Cert.ReferenceIdeal.Gen Idealize.ShloMosaic Idealize.ShloMosaic.TcCoe Idealize.ShloMosaic.ValueIdx
open Cert.Pooling Cert.Landing
open scoped BigOperators

/-- The pattern of negative infinity. -/
theorem negInf_eq : Ideal.ofBits .f32 0xFF800000#32 = ⊥ := by simp [Ideal.ofBits, Ideal.ieee]

/-- A column holds in row `n` the number of row `n`. -/
theorem listed_apply (s : IVec S100000 32) (n : Fin 100000) : listed s (ix2 n 0) = s (ix1 n) :=
  broadcastInDim_apply _ _ s (ix2 n 0) (ix1 n) fun a => match a with | ⟨0, _⟩ => rfl

/-- A number below 64 is not negative, so as an index it stays as it is. -/
theorem wrap_small (b : Fin 64) :
    Scalar.select (IntOp.cmpi .slt (BitVec.ofNat 32 b.val) 0#32) (IntOp.addi (BitVec.ofNat 32 b.val) 64#32) (BitVec.ofNat 32 b.val)
      = BitVec.ofNat 32 b.val := by
  revert b; decide

/-- The index of a row of segment `b` is `b`. -/
theorem wrapped_apply (s : IVec S100000 32) {b : Fin 64} {n : Fin 100000} (h : member s b n) :
    wrapped s (ix2 n 0) = BitVec.ofNat 32 b.val := by
  rw [wrapped, listed_apply]
  show Scalar.select (IntOp.cmpi .slt (s (ix1 n)) 0#32) (IntOp.addi (s (ix1 n)) 64#32) (s (ix1 n)) = _
  rw [show s (ix1 n) = BitVec.ofNat 32 b.val from h]
  exact wrap_small b

/-- A row of segment `b` reads segment `b`'s number. -/
theorem perRow_apply (s : IVec S100000 32) (v : FVec Ideal S64 .f32) {b : Fin 64} {n : Fin 100000} (h : member s b n) :
    perRow s v (ix1 n) = v (ix1 b) :=
  Routing.gather_take1 _ rfl rfl rfl rfl v (wrapped s) n b (wrapped_apply s h) (by norm_num)

/-- Every row's score in every segment. -/
theorem spread_apply (s : IVec S100000 32) (e : FVec Ideal S100000 .f32) (b : Fin 64) (n : Fin 100000) :
    spread s e (ix2 b n) = if member s b n then e (ix1 n) else ⊥ := by
  have hrow : ∀ {α : Type} (v : S100000.Idx → α),
      broadcastInDim S64x100000 ![0, 1] bcast_S1x100000_S64x100000_0_1 (broadcastInDim S1x100000 ![1] bcast_S100000_S1x100000_1 v)
        (ix2 b n) = v (ix1 n) := fun v =>
    (broadcastInDim_apply _ _ _ (ix2 b n) (ix2 0 n) fun a => match a with | ⟨0, _⟩ => rfl | ⟨1, _⟩ => rfl).trans
      (broadcastInDim_apply _ _ v (ix2 0 n) (ix1 n) fun a => match a with | ⟨0, _⟩ => rfl)
  have hcol : broadcastInDim S64x100000 ![0, 1] bcast_S64x1_S64x100000_0_1
      (broadcastInDim S64x1 ![0] bcast_S64_S64x1_0 (iotaInDim S64 32 0)) (ix2 b n) = BitVec.ofNat 32 b.val :=
    (broadcastInDim_apply _ _ _ (ix2 b n) (ix2 b 0) fun a => match a with | ⟨0, _⟩ => rfl | ⟨1, _⟩ => rfl).trans
      (broadcastInDim_apply _ _ (iotaInDim S64 32 0) (ix2 b 0) (ix1 b) fun a => match a with | ⟨0, _⟩ => rfl)
  have hc : cmpi .eq
      (broadcastInDim S64x100000 ![0, 1] bcast_S1x100000_S64x100000_0_1 (broadcastInDim S1x100000 ![1] bcast_S100000_S1x100000_1 s))
      (broadcastInDim S64x100000 ![0, 1] bcast_S64x1_S64x100000_0_1 (broadcastInDim S64x1 ![0] bcast_S64_S64x1_0 (iotaInDim S64 32 0)))
      (ix2 b n) = BitVec.ofBool (s (ix1 n) == BitVec.ofNat 32 b.val) := congrArg₂ (IntOp.cmpi .eq) (hrow s) hcol
  rw [spread, select_apply, hc, hrow e]
  by_cases h : s (ix1 n) = BitVec.ofNat 32 b.val
  · rw [if_pos h, h, beq_self_eq_true]
    exact select_one _ _
  · rw [if_neg h, beq_false_of_ne h]
    exact (select_zero _ _).trans negInf_eq

/-- A segment's greatest score. -/
theorem tops_apply (s : IVec S100000 32) (e : FVec Ideal S100000 .f32) (b : Fin 64) :
    tops s e (ix1 b) = Finset.univ.sup fun n => if member s b n then e (ix1 n) else ⊥ := by
  have hr : S64x100000.Reduces [1] S64 := by decide
  refine (Host.reduce_eq_fold_single _ (spread s e) _ reducesTo_S64x100000_S64_d1 hr h_S_ (ix1 b)).trans ?_
  have h0 : (constant S_ .f32 0xFF800000#32 : FVec Ideal S_ .f32) (Shape.Idx.first h_S_) = ⊥ := negInf_eq
  rw [h0]
  refine Finset.fold_congr fun n _ => ?_
  refine (congrArg (spread s e) (funext fun a => ?_)).trans (spread_apply s e b n)
  match a with
  | ⟨0, _⟩ => exact Fin.ext rfl
  | ⟨1, _⟩ => exact Fin.ext rfl

/-- A segment's sum of numbers over its rows. -/
theorem sums_apply (s : IVec S100000 32) (w : FVec Ideal S100000 .f32) (b : Fin 64) :
    sums s w (ix1 b) = ∑ n ∈ Finset.univ.filter (member s b), w (ix1 n) := by
  refine (segmentSum_apply (by norm_num) _ _ (listed s) w b).trans ?_
  rw [show (broadcastInDim S64 ![] bcast_S_S64 zero : FVec Ideal S64 .f32) (ix1 b) = 0 from Ideal.ofBits_zero_f32, zero_add]
  simp only [listed_apply]

/-- A segment's sum over its rows, each multiplied by a number of its own. -/
theorem readout_apply (x : FVec Ideal S100000x128 .f32) (s : IVec S100000 32) (a : FVec Ideal S100000 .f32) (b : Fin 64)
    (d : Fin 128) : readout x s a (ix2 b d) = ∑ n ∈ Finset.univ.filter (member s b), a (ix1 n) * x (ix2 n d) := by
  refine (segmentSumRows_apply (by norm_num) _ _ (listed s) _ b d).trans ?_
  rw [show (broadcastInDim S64x128 ![] bcast_S_S64x128 zero : FVec Ideal S64x128 .f32) (ix2 b d) = 0 from Ideal.ofBits_zero_f32,
    zero_add]
  simp only [listed_apply]
  refine Finset.sum_congr rfl fun n _ => ?_
  refine congrArg (fun t : EReal => t * x (ix2 n d)) ?_
  exact (broadcastInDim_apply _ _ _ (ix2 n d) (ix2 n 0) fun k => match k with | ⟨0, _⟩ => rfl | ⟨1, _⟩ => rfl).trans
    (broadcastInDim_apply _ _ a (ix2 n 0) (ix1 n) fun k => match k with | ⟨0, _⟩ => rfl)

/-- A row's weight, from its score and its segment's greatest score. -/
theorem weight_eq (s : IVec S100000 32) (e : FVec Ideal S100000 .f32) (n : Fin 100000) :
    weights s e (ix1 n) = Ideal.exp (e (ix1 n) - perRow s (tops s e) (ix1 n)) := rfl

/-- A row's share, from its weight and its segment's sum of weights. -/
theorem share_eq (s : IVec S100000 32) (w : FVec Ideal S100000 .f32) (n : Fin 100000) :
    shares s w (ix1 n) = Ideal.div (w (ix1 n)) (perRow s (sums s w) (ix1 n)) :=
  hostDivf_apply w (perRow s (sums s w)) (ix1 n)

variable (x : FVec Ideal S100000x128 .f32) (s : IVec S100000 32) (h : FVec Ideal S64x128 .f32)
  (xr : Fin 100000 → Fin 128 → ℝ) (qr : Fin 64 → Fin 128 → ℝ)
  (hx : ∀ n d, x (ix2 n d) = ((xr n d : ℝ) : EReal)) (hq : ∀ b d, h (ix2 b d) = ((qr b d : ℝ) : EReal))

include hx hq in
/-- The score of a row of segment `b`. -/
theorem scores_apply {b : Fin 64} {n : Fin 100000} (hm : member s b n) :
    scores x s h (ix1 n) = ((score xr qr b n : ℝ) : EReal) := by
  have hr : S100000x128.Reduces [1] S100000 := by decide
  refine (Ideal.hostReduceAdd_single reducesTo_S100000x128_S100000_d1 hr _ _ (ix1 n)).trans ?_
  rw [show (zero (Shape.Idx.first h_S_) : EReal) = 0 from Ideal.ofBits_zero_f32, zero_add, score, coe_sum]
  refine Finset.sum_congr rfl fun (d : Fin 128) _ => ?_
  have hi : hr.lift (ix1 n) d = ix2 n d := funext fun a => match a with
    | ⟨0, _⟩ => Fin.ext rfl
    | ⟨1, _⟩ => Fin.ext rfl
  rw [hi, EReal.coe_mul, ← hx n d, ← hq b d]
  exact congrArg (fun t : EReal => x (ix2 n d) * t)
    (Routing.gather_row _ rfl rfl rfl rfl rfl h (wrapped s) n d b (wrapped_apply s hm) (by norm_num))

include hx hq in
/-- A segment's greatest score, over the formula's masked scores. -/
theorem tops_scores (b : Fin 64) :
    tops s (scores x s h) (ix1 b) = Finset.univ.sup (masked (member s b) (score xr qr b)) := by
  rw [tops_apply]
  refine congrArg (Finset.sup Finset.univ) (funext fun n => ?_)
  unfold masked
  by_cases hm : member s b n
  · rw [if_pos hm, if_pos hm, scores_apply x s h xr qr hx hq hm]
  · rw [if_neg hm, if_neg hm]

include hx hq in
/-- The weight of a row of segment `b`. -/
theorem weights_apply {b : Fin 64} {n : Fin 100000} (hm : member s b n) :
    weights s (scores x s h) (ix1 n)
      = Ideal.exp ((score xr qr b n : EReal) - Finset.univ.sup (masked (member s b) (score xr qr b))) := by
  rw [weight_eq, perRow_apply s _ hm, tops_scores x s h xr qr hx hq, scores_apply x s h xr qr hx hq hm]

include hx hq in
/-- The reference's pooled rows. -/
theorem pool_apply (b : Fin 64) (d : Fin 128) : pool x s h (ix2 b d) = ((pooled s xr qr b d : ℝ) : EReal) := by
  rw [pool, readout_apply, pooled, ← direct_eq]
  refine Finset.sum_congr rfl fun n hn => ?_
  have hm : member s b n := (Finset.mem_filter.1 hn).2
  rw [hx]
  refine congrArg (fun t : EReal => t * (xr n d : EReal)) ?_
  rw [share_eq, perRow_apply s _ hm, sums_apply, weights_apply x s h xr qr hx hq hm]
  refine congrArg (Ideal.div _) (Finset.sum_congr rfl fun k hk => ?_)
  exact weights_apply x s h xr qr hx hq (Finset.mem_filter.1 hk).2

end Cert.ReferenceIdeal.Rounds

end
-- ==== Proof.Equation.lean ====
/- The kernel's value is the reference's, where every row is real.

   A round's two halves agree separately. The gates add the same four terms in another order and the logistic function is the
   reference's quotient, so the LSTM cells agree on all inputs (`gates_eq`, `cell_eq`, `hidden_eq`). A new hidden state is always
   real, so with real rows both pooled arrays are the formula of `Pooling` (`pool_eq`). Four equal rounds from the same zeros give
   equal results (`value_eq`). -/
module

public import proofs.«01_k».proof.Proof.KernelPool
public import proofs.«01_k».proof.Proof.ReferenceRead
public import Idealize.ShloMosaic.Lib.KernelVsHost
public import Idealize.ShloMosaic.Lib.ValueLayout

@[expose] public section

noncomputable section

namespace Cert.Equation

open Cert.KernelIdeal Cert.KernelIdeal.Gen Idealize.ShloMosaic Idealize.ShloMosaic.TcCoe Idealize.ShloMosaic.ValueIdx
open Cert.KernelIdeal.Value (hostRows hostSegs hostW2 hostW3 hostBias)
open scoped BigOperators

/-- At the ideal values a product's precision does not matter. -/
theorem dot_prec {sl sr so : Shape} {φ₁ φ₂ : FTy} (d : DotDims sl sr so) (p p' : Option ContractPrecision)
    (lhs : FVec Ideal sl φ₁) (rhs : FVec Ideal sr φ₂) : Host.dotGeneral d p lhs rhs = Host.dotGeneral d p' lhs rhs := by
  funext j
  show FloatOps.dotGeneral d p _ lhs rhs j = FloatOps.dotGeneral d p' _ lhs rhs j
  rw [Ideal.dotGeneral_apply, Ideal.dotGeneral_apply]

/-- The product with the transposed input weights. -/
theorem dot_w2 (w2 : FVec Ideal S512x256 .f32) (qs : FVec Ideal S64x256 .f32) :
    (matmul (φ₁ := .f32) (φ₂ := .f32) dot_S64x256_S256x512_S64x512_1_0_0_1_n_n (some .fp32) qs
      (shapeCast S256x512 (hostW2 w2) shapeCasts_S256x512_S256x512) (constant S64x512 .f32 0x00000000#32) : FVec Ideal S64x512 .f32)
      = Host.dotGeneral Cert.ReferenceIdeal.dot_S64x256_S256x512_S64x512_1_0_0_1_n_n none qs
          (transpose S256x512 [1, 0] w2 Cert.ReferenceIdeal.Gen.transposes_S512x256_S256x512_1_0) := by
  rw [shapeCast_self]
  refine (matmul_zero_eq_dotGeneral _ _ _ _).trans ?_
  exact dot_prec _ _ _ _ _

/-- The product with the transposed hidden weights. -/
theorem dot_w3 (w3 : FVec Ideal S512x128 .f32) (h : FVec Ideal S64x128 .f32) :
    (matmul (φ₁ := .f32) (φ₂ := .f32) dot_S64x128_S128x512_S64x512_1_0_0_1_n_n (some .fp32) h
      (shapeCast S128x512 (hostW3 w3) shapeCasts_S128x512_S128x512) (constant S64x512 .f32 0x00000000#32) : FVec Ideal S64x512 .f32)
      = Host.dotGeneral Cert.ReferenceIdeal.dot_S64x128_S128x512_S64x512_1_0_0_1_n_n none h
          (transpose S128x512 [1, 0] w3 Cert.ReferenceIdeal.Gen.transposes_S512x128_S128x512_1_0) := by
  rw [shapeCast_self]
  refine (matmul_zero_eq_dotGeneral _ _ _ _).trans ?_
  exact dot_prec _ _ _ _ _

/-- A bias laid along every row. -/
theorem biasRows_apply (b : FVec Ideal S512 .f32) (i : Fin 64) (j : Fin 512) :
    Cert.ReferenceIdeal.Rounds.biasRows b (ix2 i j) = b (ix1 j) :=
  (broadcastInDim_apply _ _ _ (ix2 i j) (ix2 0 j) fun a => match a with | ⟨0, _⟩ => rfl | ⟨1, _⟩ => rfl).trans
    (broadcastInDim_apply _ _ b (ix2 0 j) (ix1 j) fun a => match a with | ⟨0, _⟩ => rfl)

/-- The sum of the two biases laid along every row. -/
theorem bias_apply (b b' : FVec Ideal S512 .f32) (i : Fin 64) (j : Fin 512) :
    broadcastTo S64x512 (shapeCast S1x512 (hostBias b b') shapeCasts_S1x512_S1x512) broadcasts_S1x512_S64x512 (ix2 i j)
      = ((b (ix1 j) : EReal) + b' (ix1 j) : EReal) := by
  rw [shapeCast_self]
  refine (broadcastTo_1b_ab_apply _ _ i j).trans ?_
  exact shapeCast_a_1a_apply _ _ _ j

/-- Four terms in the kernel's order and in the reference's. -/
theorem four_terms (p r u v : EReal) : p + r + (u + v) = p + u + r + v := by
  rw [add_add_add_comm, ← add_assoc]

variable (w2 : FVec Ideal S512x256 .f32) (w3 : FVec Ideal S512x128 .f32) (b b' : FVec Ideal S512 .f32)

/-- The gates' pre-activations. -/
theorem gates_eq (qs : FVec Ideal S64x256 .f32) (h : FVec Ideal S64x128 .f32) :
    Value.gates (hostW2 w2) (hostW3 w3) (hostBias b b') qs h = Cert.ReferenceIdeal.Rounds.gates w2 w3 b b' qs h := by
  unfold Value.gates Cert.ReferenceIdeal.Rounds.gates
  rw [dot_w2, dot_w3]
  generalize Host.dotGeneral Cert.ReferenceIdeal.dot_S64x256_S256x512_S64x512_1_0_0_1_n_n none qs _ = p
  generalize Host.dotGeneral Cert.ReferenceIdeal.dot_S64x128_S128x512_S64x512_1_0_0_1_n_n none h _ = r
  funext k
  rw [eq_ix2 k]
  generalize k 0 = i
  generalize k 1 = j
  refine (congrArg (fun t : EReal => (p (ix2 i j) + r (ix2 i j) : EReal) + t) (bias_apply b b' i j)).trans ?_
  refine Eq.trans ?_ (congrArg₂ (fun t u : EReal => (p (ix2 i j) + t + r (ix2 i j) : EReal) + u) (biasRows_apply b i j)
    (biasRows_apply b' i j)).symm
  exact four_terms (p (ix2 i j)) (r (ix2 i j)) (b (ix1 j)) (b' (ix1 j))

/-- The kernel's logistic function is the reference's quotient. -/
theorem logistic_eq (z : FVec Ideal S64x128 .f32) : logistic z = Cert.ReferenceIdeal.Rounds.sigmoid z := by
  funext i
  show Ideal.div 1 (1 + Ideal.exp (-(z i : EReal)))
    = Ideal.div (Ideal.ofBits .f32 0x3F800000#32) (Ideal.ofBits .f32 0x3F800000#32 + Ideal.exp (-(z i : EReal)))
  rw [Ideal.ofBits_one_f32]

/-- The new cell states. -/
theorem cell_eq (g : FVec Ideal S64x512 .f32) (c : FVec Ideal S64x128 .f32) :
    Value.cell g c = Cert.ReferenceIdeal.Rounds.cell g c := by
  unfold Value.cell Cert.ReferenceIdeal.Rounds.cell
  rw [logistic_eq, logistic_eq]
  rfl

/-- The new hidden states. -/
theorem hidden_eq (g : FVec Ideal S64x512 .f32) (c : FVec Ideal S64x128 .f32) :
    Value.hidden g c = Cert.ReferenceIdeal.Rounds.hidden g c := by
  unfold Value.hidden Cert.ReferenceIdeal.Rounds.hidden
  rw [logistic_eq]
  rfl

variable (x : FVec Ideal S100000x128 .f32) (s : IVec S100000 32) (hx : ∀ i, ∃ r : ℝ, x i = (r : EReal))

include hx in
/-- The pooled rows, at a real hidden state. -/
theorem pool_eq (q : FVec Ideal S64x128 .f32) (hq : ∀ i, ∃ r : ℝ, q i = (r : EReal)) :
    Value.pool (hostRows x) (hostSegs s) q = Cert.ReferenceIdeal.Rounds.pool x s q := by
  choose xr hxr using hx
  choose qr hqr using hq
  funext i
  rw [eq_ix2 i]
  exact (Value.pool_apply x s q (fun n d => xr (ix2 n d)) (fun k d => qr (ix2 k d)) (fun n d => hxr _) (fun k d => hqr _) _ _).trans
    (Cert.ReferenceIdeal.Rounds.pool_apply x s q (fun n d => xr (ix2 n d)) (fun k d => qr (ix2 k d)) (fun n d => hxr _)
      (fun k d => hqr _) _ _).symm

/-- The pair of a hidden state and pooled rows. -/
theorem beside_eq (h r : FVec Ideal S64x128 .f32) : Value.beside h r = Cert.ReferenceIdeal.Rounds.beside h r := rfl

/-- What the reference's round holds, as the kernel's. -/
def asState (t : Cert.ReferenceIdeal.Rounds.Round) : Value.State := ⟨t.qs, t.h, t.c⟩

/-- Both start from zeros. -/
theorem init_eq : Value.State.init = asState Cert.ReferenceIdeal.Rounds.Round.init := rfl

include hx in
/-- One round. -/
theorem step_eq (t : Cert.ReferenceIdeal.Rounds.Round) :
    Value.step (hostRows x) (hostSegs s) (hostW2 w2) (hostW3 w3) (hostBias b b') (asState t)
      = asState (Cert.ReferenceIdeal.Rounds.round x s w2 w3 b b' t) := by
  have hp := fun g c => pool_eq x s hx (Value.hidden g c) (Value.hidden_real g c)
  unfold Value.step asState Cert.ReferenceIdeal.Rounds.round
  dsimp only
  rw [hp, gates_eq, cell_eq, hidden_eq, beside_eq]

include hx in
/-- Any number of rounds. -/
theorem steps_eq (n : ℕ) (t : Cert.ReferenceIdeal.Rounds.Round) :
    (Value.step (hostRows x) (hostSegs s) (hostW2 w2) (hostW3 w3) (hostBias b b'))^[n] (asState t)
      = asState ((Cert.ReferenceIdeal.Rounds.round x s w2 w3 b b')^[n] t) := by
  induction n generalizing t with
  | zero => rfl
  | succ n ih => rw [Function.iterate_succ_apply, Function.iterate_succ_apply, step_eq w2 w3 b b' x s hx, ih]

include hx in
/-- The two results. -/
theorem value_eq :
    Value.kernelValue x s w2 w3 b b' = Cert.ReferenceIdeal.Read.val_main_v338 (F := Ideal) x s w2 w3 b b' := by
  rw [Cert.ReferenceIdeal.Rounds.result_eq, Value.kernelValue, Value.final, init_eq, steps_eq w2 w3 b b' x s hx]
  rfl

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- A number spread over an array of rows. -/
theorem preFacts : Cert.Pre_finite_rows.Facts := ⟨by decide⟩

attribute [local instance] Cert.Kernel.Gen.facts Cert.KernelIdeal.Gen.facts Cert.ReferenceIdeal.Gen.facts preFacts

/-- The kernel runs and leaves its arguments. -/
theorem frame_kernel : Cert.quiescent_Kernel := fun m ρ _ => Cert.Kernel.Gen.frame m ρ

/-- The idealized kernel runs and leaves its arguments. -/
theorem frame_kernelIdeal : Cert.quiescent_KernelIdeal := fun m ρ _ => Cert.KernelIdeal.Gen.frame m ρ

/-- The same of finite rows. -/
theorem frame_kernelIdeal_pre : Cert.quiescent_KernelIdeal_pre_finite_rows := fun m ρ _ => Cert.KernelIdeal.Gen.frame m ρ

/-- The reference runs and leaves its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of finite rows. -/
theorem frame_reference_pre : Cert.quiescent_ReferenceIdeal_pre_finite_rows := fun m ρ _ => frame_reference m ρ trivial

/-- A number whose magnitude is below infinity is real. -/
theorem real_of_abs_lt {a : EReal} (h : max a (-a) < ⊤) : ∃ r : ℝ, a = (r : EReal) := by
  induction a with
  | bot => simp at h
  | coe a => exact ⟨a, rfl⟩
  | top => simp at h

/-- The pattern of positive infinity. -/
theorem posInf_eq : Ideal.ofBits .f32 0x7F800000#32 = ⊤ := by simp [Ideal.ofBits, Ideal.ieee]

/-- Finite rows are real. -/
theorem rows_real (x : FVec Ideal Cert.Pre_finite_rows.S100000x128 .f32) (s : IVec Cert.Pre_finite_rows.S100000 32)
    (w2 : FVec Ideal Cert.Pre_finite_rows.S512x256 .f32) (w3 : FVec Ideal Cert.Pre_finite_rows.S512x128 .f32)
    (a b : FVec Ideal Cert.Pre_finite_rows.S512 .f32)
    (h : Cert.Pre_finite_rows.fn (F := Ideal) x s w2 w3 a b = fun _ => 1#1) (i : Cert.Pre_finite_rows.S100000x128.Idx) :
    ∃ r : ℝ, x i = (r : EReal) := by
  have hc : BitVec.ofBool (decide (max (x i : EReal) (-(x i : EReal)) < Ideal.ofBits .f32 0x7F800000#32)) = 1#1 := congrFun h i
  rw [posInf_eq] at hc
  refine real_of_abs_lt ?_
  by_contra hn
  rw [decide_eq_false hn] at hc
  exact absurd hc (by decide)

/-- The idealized kernel is the kernel with its mask constant given a name. -/
theorem preserves : Cert.preserves_Kernel_KernelIdeal :=
  IdealRules.named_const.statement Cert.KernelIdeal.κ "mask" .f32 0xF149F2CA#32 ⊥ rfl

/-- The two results, of arguments that agree. -/
theorem value_of_agree (x x' : FVec Ideal Cert.KernelIdeal.S100000x128 .f32) (s s' : IVec Cert.KernelIdeal.S100000 32)
    (w2 w2' : FVec Ideal Cert.KernelIdeal.S512x256 .f32) (w3 w3' : FVec Ideal Cert.KernelIdeal.S512x128 .f32)
    (a a' b b' : FVec Ideal Cert.KernelIdeal.S512 .f32) (hx : x' = x) (hs : s' = s) (h2 : w2' = w2) (h3 : w3' = w3) (ha : a' = a)
    (hb : b' = b) (hr : ∀ i, ∃ r : ℝ, x i = (r : EReal)) :
    Cert.ReferenceIdeal.Read.val_main_v338 (F := Ideal) x' s' w2' w3' a' b' = Cert.KernelIdeal.Value.kernelValue x s w2 w3 a b := by
  subst hx hs h2 h3 ha hb
  exact (Cert.Equation.value_eq w2' w3' a' b' x' s' hr).symm

/-- The kernel's result is the reference's. -/
theorem algebraic : Cert.algebraic_KernelIdeal_ReferenceIdeal_pre_finite_rows := by
  intro m g m' g' hpre hagree
  refine ⟨fun c => Cert.KernelIdeal.Value.result m c, ?_, ?_⟩
  · exact (θ_run _ _ _).mono (fun _ h c => ⟨(h c).1.trans (Cert.KernelIdeal.Value.result_eq m c), (h c).2⟩)
      (Cert.KernelIdeal.Value.run_blocks (F := Ideal) m g)
  · refine (θ_run _ _ _).mono (fun _ h c => ⟨(h c).1.trans ?_, (h c).2⟩) (Cert.ReferenceIdeal.Value.run (F := Ideal) m' g')
    refine (Cert.ReferenceIdeal.Read.val_main_v338_eq (F := Ideal) (StableHlo.launchContents m' c)).trans ?_
    obtain ⟨h0, h1, h2, h3, h4, h5⟩ := hagree c
    exact value_of_agree _ _ _ _ _ _ _ _ _ _ _ _ h0 h1 h2 h3 h4 h5 (rows_real _ _ _ _ _ _ (hpre c))

theorem claim : Cert.Claim :=
  ⟨Cert.Kernel.Gen.facts, Cert.KernelIdeal.Gen.facts, Cert.ReferenceIdeal.Gen.facts, preFacts,
    frame_kernel, frame_kernelIdeal, frame_kernelIdeal_pre, frame_reference, frame_reference_pre, preserves, algebraic⟩

end Cert.Proof

end
